-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x50 : Shape := ⟨2, ![4096, 50]⟩
abbrev S4096x50x32 : Shape := ⟨3, ![4096, 50, 32]⟩
abbrev S2x128 : Shape := ⟨2, ![2, 128]⟩
abbrev S4x128 : Shape := ⟨2, ![4, 128]⟩
abbrev S32x128 : Shape := ⟨2, ![32, 128]⟩
abbrev S128 : Shape := ⟨1, ![128]⟩
abbrev S_ : Shape := ⟨0, ![]⟩
abbrev S32 : Shape := ⟨1, ![32]⟩
abbrev S32x1 : Shape := ⟨2, ![32, 1]⟩
abbrev S1x32x1x1 : Shape := ⟨4, ![1, 32, 1, 1]⟩
abbrev S1x32x128x1 : Shape := ⟨4, ![1, 32, 128, 1]⟩
abbrev S32x256 : Shape := ⟨2, ![32, 256]⟩
abbrev S1x128 : Shape := ⟨2, ![1, 128]⟩
abbrev S1x256 : Shape := ⟨2, ![1, 256]⟩
abbrev S40x128 : Shape := ⟨2, ![40, 128]⟩
abbrev S1 : Shape := ⟨1, ![1]⟩
abbrev S40x256 : Shape := ⟨2, ![40, 256]⟩
abbrev S4096x50x128 : Shape := ⟨3, ![4096, 50, 128]⟩
abbrev S128x50 : Shape := ⟨2, ![128, 50]⟩
abbrev S128x50x128 : Shape := ⟨3, ![128, 50, 128]⟩
abbrev S2x128x50x32 : Shape := ⟨4, ![2, 128, 50, 32]⟩
abbrev S2 : Shape := ⟨1, ![2]⟩
abbrev S1x128x50x32 : Shape := ⟨4, ![1, 128, 50, 32]⟩
abbrev S128x50x32 : Shape := ⟨3, ![128, 50, 32]⟩
abbrev S6x32 : Shape := ⟨2, ![6, 32]⟩
abbrev S1x50x32 : Shape := ⟨3, ![1, 50, 32]⟩
abbrev S50x32 : Shape := ⟨2, ![50, 32]⟩
abbrev S7168x32 : Shape := ⟨2, ![7168, 32]⟩
abbrev S7168x256 : Shape := ⟨2, ![7168, 256]⟩
abbrev S7168x128 : Shape := ⟨2, ![7168, 128]⟩
abbrev S7168 : Shape := ⟨1, ![7168]⟩
abbrev S7168x1 : Shape := ⟨2, ![7168, 1]⟩
abbrev S1x6 : Shape := ⟨2, ![1, 6]⟩
abbrev S1x50 : Shape := ⟨2, ![1, 50]⟩
abbrev S1x7168 : Shape := ⟨2, ![1, 7168]⟩
abbrev S40x7168 : Shape := ⟨2, ![40, 7168]⟩
abbrev S50x128 : Shape := ⟨2, ![50, 128]⟩
abbrev S1x50x128 : Shape := ⟨3, ![1, 50, 128]⟩

abbrev nBuf : Space → Nat
  | .hbm => 42
  | .vmem => 14
  | .smem => 0
  | _ => 0

abbrev bufTy : (tb : Table) → Fin (tcTables nBuf tb) → BufTy
  | .hbm, ⟨0, _⟩ => ⟨S4096x50, .i32⟩
  | .hbm, ⟨1, _⟩ => ⟨S4096x50, .i32⟩
  | .hbm, ⟨2, _⟩ => ⟨S4096x50, .i32⟩
  | .hbm, ⟨3, _⟩ => ⟨S4096x50x32, .f32⟩
  | .hbm, ⟨4, _⟩ => ⟨S2x128, .f32⟩
  | .hbm, ⟨5, _⟩ => ⟨S4x128, .f32⟩
  | .hbm, ⟨6, _⟩ => ⟨S32x128, .f32⟩
  | .hbm, ⟨7, _⟩ => ⟨S32x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S32, .f32⟩
  | .hbm, ⟨13, _⟩ => ⟨S32x1, .f32⟩
  | .hbm, ⟨14, _⟩ => ⟨S_, .f32⟩
  | .hbm, ⟨15, _⟩ => ⟨S32x1, .f32⟩
  | .hbm, ⟨16, _⟩ => ⟨S32x1, .f32⟩
  | .hbm, ⟨17, _⟩ => ⟨S1x32x1x1, .f32⟩
  | .hbm, ⟨18, _⟩ => ⟨S1x32x128x1, .f32⟩
  | .hbm, ⟨19, _⟩ => ⟨S32x128, .f32⟩
  | .hbm, ⟨20, _⟩ => ⟨S32x256, .f32⟩
  | .hbm, ⟨21, _⟩ => ⟨S1x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x128, .f32⟩
  | .hbm, ⟨27, _⟩ => ⟨S1x256, .f32⟩
  | .hbm, ⟨28, _⟩ => ⟨S_, .f32⟩
  | .hbm, ⟨29, _⟩ => ⟨S2x128, .f32⟩
  | .hbm, ⟨30, _⟩ => ⟨S40x128, .f32⟩
  | .hbm, ⟨31, _⟩ => ⟨S_, .f32⟩
  | .hbm, ⟨32, _⟩ => ⟨S40x128, .f32⟩
  | .hbm, ⟨33, _⟩ => ⟨S_, .i32⟩
  | .hbm, ⟨34, _⟩ => ⟨S1, .i32⟩
  | .hbm, ⟨35, _⟩ => ⟨S_, .f32⟩
  | .hbm, ⟨36, _⟩ => ⟨S2x128, .f32⟩
  | .hbm, ⟨37, _⟩ => ⟨S40x128, .f32⟩
  | .hbm, ⟨38, _⟩ => ⟨S40x256, .f32⟩
  | .hbm, ⟨39, _⟩ => ⟨S1x128, .f32⟩
  | .hbm, ⟨40, _⟩ => ⟨S1x128, .f32⟩
  | .hbm, ⟨41, _⟩ => ⟨S4096x50x128, .f32⟩
  | .local _ .vmem, ⟨0, _⟩ => ⟨S128x50, .i32⟩
  | .local _ .vmem, ⟨1, _⟩ => ⟨S128x50, .i32⟩
  | .local _ .vmem, ⟨2, _⟩ => ⟨S128x50, .i32⟩
  | .local _ .vmem, ⟨3, _⟩ => ⟨S128x50, .i32⟩
  | .local _ .vmem, ⟨4, _⟩ => ⟨S128x50, .i32⟩
  | .local _ .vmem, ⟨5, _⟩ => ⟨S128x50, .i32⟩
  | .local _ .vmem, ⟨6, _⟩ => ⟨S32x256, .f32⟩
  | .local _ .vmem, ⟨7, _⟩ => ⟨S1x256, .f32⟩
  | .local _ .vmem, ⟨8, _⟩ => ⟨S1x128, .f32⟩
  | .local _ .vmem, ⟨9, _⟩ => ⟨S1x128, .f32⟩
  | .local _ .vmem, ⟨10, _⟩ => ⟨S40x256, .f32⟩
  | .local _ .vmem, ⟨11, _⟩ => ⟨S128x50x128, .f32⟩
  | .local _ .vmem, ⟨12, _⟩ => ⟨S128x50x128, .f32⟩
  | .local _ .vmem, ⟨13, _⟩ => ⟨S2x128x50x32, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 4 → Nat :=
  let arg0 : BitVec 32 := BitVec.ofNat 32 (i 0).val
  let c2_i32 : BitVec 32 := 2#32
  let v0 : BitVec 32 := Scalar.remsi arg0 c2_i32
  let c0_i32_1829 : BitVec 32 := 0#32
  let c0_i32_1830 : BitVec 32 := 0#32
  let c0_i32_1831 : BitVec 32 := 0#32
  ![v0.toNat, 0, 0, 0]
def k0_off3 (i : grid0.Coords) : Fin 3 → Nat :=
  let arg0 : BitVec 32 := BitVec.ofNat 32 (i 0).val
  let c128_i32_1828 : BitVec 32 := 128#32
  let v1508 : BitVec 32 := Scalar.muli arg0 c128_i32_1828
  let c0_i32_1832 : BitVec 32 := 0#32
  let c0_i32_1833 : BitVec 32 := 0#32
  ![v1508.toNat, 0, 0]
def k0_cond2 (i : grid0.Coords) : BitVec 1 :=
  let arg0 : BitVec 32 := BitVec.ofNat 32 (i 0).val
  let c1_i32_2 : BitVec 32 := 1#32
  let v6 : BitVec 32 := Scalar.addi arg0 c1_i32_2
  let c32_i32 : BitVec 32 := 32#32
  let v7 : BitVec 1 := Scalar.cmpi .slt v6 c32_i32
  let v8 : BitVec 32 := Scalar.extui v7
  let c0_i32_3 : BitVec 32 := 0#32
  let v9 : BitVec 1 := Scalar.cmpi .ne v8 c0_i32_3
  v9

def k0_off4 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off5 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_1830 : BitVec 32 := 0#32
  let c0_i32_1831 : BitVec 32 := 0#32
  let c0_i32_1832 : BitVec 32 := 0#32
  ![v2.toNat, 0, 0, 0]
def k0_off6 (i : grid0.Coords) : Fin 3 → Nat :=
  let arg0 : BitVec 32 := BitVec.ofNat 32 (i 0).val
  let c1_i32_1828 : BitVec 32 := 1#32
  let v1508 : BitVec 32 := Scalar.addi arg0 c1_i32_1828
  let c128_i32_1829 : BitVec 32 := 128#32
  let v1509 : BitVec 32 := Scalar.muli v1508 c128_i32_1829
  let c0_i32_1833 : BitVec 32 := 0#32
  let c0_i32_1834 : BitVec 32 := 0#32
  ![v1509.toNat, 0, 0]
def k0_off7 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off8 (i : grid0.Coords) : Fin 4 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  let c0_i32_6 : BitVec 32 := 0#32
  ![v0.toNat, 0, 0, 0]
def k0_off9 (i : grid0.Coords) : Fin 3 → Nat :=
  let arg0 : BitVec 32 := BitVec.ofNat 32 (i 0).val
  let c128_i32 : BitVec 32 := 128#32
  let v10 : BitVec 32 := Scalar.muli arg0 c128_i32
  let c0_i32_7 : BitVec 32 := 0#32
  let c0_i32_8 : BitVec 32 := 0#32
  ![v10.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x50 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x50 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x50 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S40x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x50x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x50 : Shape := ⟨2, ![4096, 50]⟩
abbrev S4096x50x32 : Shape := ⟨3, ![4096, 50, 32]⟩
abbrev S2x128 : Shape := ⟨2, ![2, 128]⟩
abbrev S4x128 : Shape := ⟨2, ![4, 128]⟩
abbrev S32x128 : Shape := ⟨2, ![32, 128]⟩
abbrev S128 : Shape := ⟨1, ![128]⟩
abbrev S_ : Shape := ⟨0, ![]⟩
abbrev S4096x50x128 : Shape := ⟨3, ![4096, 50, 128]⟩
abbrev S1x1x128 : Shape := ⟨3, ![1, 1, 128]⟩
abbrev S4096x50x1 : Shape := ⟨3, ![4096, 50, 1]⟩
abbrev S1 : Shape := ⟨1, ![1]⟩
abbrev S1x1x1 : Shape := ⟨3, ![1, 1, 1]⟩

abbrev nBuf : Space → Nat
  | .hbm => 173
  | .vmem => 0
  | .smem => 0
  | _ => 0

abbrev hbmTy0_0 (i : Nat) : BufTy := match i % 128 with
  | 0 => ⟨S4096x50, .i32⟩
  | 1 => ⟨S4096x50, .i32⟩
  | 2 => ⟨S4096x50, .i32⟩
  | 3 => ⟨S4096x50x32, .f32⟩
  | 4 => ⟨S2x128, .f32⟩
  | 5 => ⟨S4x128, .f32⟩
  | 6 => ⟨S32x128, .f32⟩
  | 7 => ⟨S32x128, .f32⟩
  | 8 => ⟨S128, .f32⟩
  | 9 => ⟨S128, .f32⟩
  | 10 => ⟨S128, .f32⟩
  | 11 => ⟨S_, .i32⟩
  | 12 => ⟨S4096x50, .i32⟩
  | 13 => ⟨S4096x50, .i1⟩
  | 14 => ⟨S_, .i32⟩
  | 15 => ⟨S4096x50, .i32⟩
  | 16 => ⟨S4096x50, .i1⟩
  | 17 => ⟨S4096x50, .i1⟩
  | 18 => ⟨S_, .i32⟩
  | 19 => ⟨S_, .i32⟩
  | 20 => ⟨S_, .i32⟩
  | 21 => ⟨S4096x50, .i32⟩
  | 22 => ⟨S4096x50, .i32⟩
  | 23 => ⟨S_, .i32⟩
  | 24 => ⟨S4096x50, .i32⟩
  | 25 => ⟨S4096x50, .i32⟩
  | 26 => ⟨S_, .i32⟩
  | 27 => ⟨S_, .i32⟩
  | 28 => ⟨S_, .i32⟩
  | 29 => ⟨S4096x50, .i32⟩
  | 30 => ⟨S4096x50, .i32⟩
  | 31 => ⟨S_, .i32⟩
  | 32 => ⟨S4096x50, .i32⟩
  | 33 => ⟨S4096x50, .i32⟩
  | 34 => ⟨S_, .i32⟩
  | 35 => ⟨S4096x50, .i32⟩
  | 36 => ⟨S4096x50, .i32⟩
  | 37 => ⟨S_, .i32⟩
  | 38 => ⟨S_, .i32⟩
  | 39 => ⟨S_, .i32⟩
  | 40 => ⟨S4096x50, .i32⟩
  | 41 => ⟨S4096x50, .i32⟩
  | 42 => ⟨S_, .i32⟩
  | 43 => ⟨S4096x50, .i32⟩
  | 44 => ⟨S4096x50, .i32⟩
  | 45 => ⟨S4096x50x128, .f32⟩
  | 46 => ⟨S1x1x128, .f32⟩
  | 47 => ⟨S4096x50x128, .f32⟩
  | 48 => ⟨S4096x50x128, .f32⟩
  | 49 => ⟨S_, .f32⟩
  | 50 => ⟨S4096x50, .f32⟩
  | 51 => ⟨S4096x50x1, .f32⟩
  | 52 => ⟨S_, .f32⟩
  | 53 => ⟨S4096x50x1, .f32⟩
  | 54 => ⟨S4096x50x1, .f32⟩
  | 55 => ⟨S_, .i32⟩
  | 56 => ⟨S_, .f32⟩
  | 57 => ⟨S4096x50, .f32⟩
  | 58 => ⟨S4096x50x1, .f32⟩
  | 59 => ⟨S_, .f32⟩
  | 60 => ⟨S4096x50x1, .f32⟩
  | 61 => ⟨S4096x50x1, .f32⟩
  | 62 => ⟨S4096x50x128, .f32⟩
  | 63 => ⟨S4096x50x128, .f32⟩
  | 64 => ⟨S4096x50x128, .f32⟩
  | 65 => ⟨S_, .f32⟩
  | 66 => ⟨S_, .f32⟩
  | 67 => ⟨S_, .f32⟩
  | 68 => ⟨S_, .f32⟩
  | 69 => ⟨S4096x50, .f32⟩
  | 70 => ⟨S4096x50x1, .f32⟩
  | 71 => ⟨S4096x50x1, .f32⟩
  | 72 => ⟨S4096x50x1, .f32⟩
  | 73 => ⟨S_, .f32⟩
  | 74 => ⟨S_, .i1⟩
  | 75 => ⟨S_, .f32⟩
  | 76 => ⟨S_, .f32⟩
  | 77 => ⟨S4096x50x1, .f32⟩
  | 78 => ⟨S4096x50x1, .f32⟩
  | 79 => ⟨S4096x50x128, .f32⟩
  | 80 => ⟨S4096x50x128, .f32⟩
  | 81 => ⟨S_, .f32⟩
  | 82 => ⟨S4096x50x1, .f32⟩
  | 83 => ⟨S4096x50x1, .f32⟩
  | 84 => ⟨S4096x50x1, .f32⟩
  | 85 => ⟨S4096x50x128, .f32⟩
  | 86 => ⟨S4096x50x128, .f32⟩
  | 87 => ⟨S1x1x128, .f32⟩
  | 88 => ⟨S4096x50x128, .f32⟩
  | 89 => ⟨S4096x50x128, .f32⟩
  | 90 => ⟨S1x1x128, .f32⟩
  | 91 => ⟨S4096x50x128, .f32⟩
  | 92 => ⟨S4096x50x128, .f32⟩
  | 93 => ⟨S_, .f32⟩
  | 94 => ⟨S4096x50x128, .f32⟩
  | 95 => ⟨S4096x50x128, .f32⟩
  | 96 => ⟨S_, .i32⟩
  | 97 => ⟨S4096x50, .i32⟩
  | 98 => ⟨S4096x50, .i1⟩
  | 99 => ⟨S_, .i32⟩
  | 100 => ⟨S4096x50, .i32⟩
  | 101 => ⟨S4096x50, .i32⟩
  | 102 => ⟨S4096x50, .i32⟩
  | 103 => ⟨S4096x50x1, .i32⟩
  | 104 => ⟨S1, .i32⟩
  | 105 => ⟨S_, .i32⟩
  | 106 => ⟨S4096x50x1, .i32⟩
  | 107 => ⟨S4096x50x1, .i1⟩
  | 108 => ⟨S1x1x1, .i32⟩
  | 109 => ⟨S4096x50x1, .i32⟩
  | 110 => ⟨S4096x50x1, .i1⟩
  | 111 => ⟨S4096x50x1, .i1⟩
  | 112 => ⟨S_, .i1⟩
  | 113 => ⟨S4096x50, .i1⟩
  | 114 => ⟨S4096x50x128, .f32⟩
  | 115 => ⟨S4096x50x128, .i1⟩
  | 116 => ⟨S_, .f32⟩
  | 117 => ⟨S4096x50x128, .f32⟩
  | 118 => ⟨S4096x50x128, .f32⟩
  | 119 => ⟨S_, .i32⟩
  | 120 => ⟨S4096x50, .i32⟩
  | 121 => ⟨S4096x50, .i1⟩
  | 122 => ⟨S_, .i32⟩
  | 123 => ⟨S4096x50, .i32⟩
  | 124 => ⟨S4096x50, .i32⟩
  | 125 => ⟨S4096x50, .i32⟩
  | 126 => ⟨S4096x50x1, .i32⟩
  | 127 => ⟨S1, .i32⟩
  | _ => ⟨S4096x50, .i32⟩

abbrev hbmTy0_1 (i : Nat) : BufTy := match i % 128 with
  | 0 => ⟨S_, .i32⟩
  | 1 => ⟨S4096x50x1, .i32⟩
  | 2 => ⟨S4096x50x1, .i1⟩
  | 3 => ⟨S1x1x1, .i32⟩
  | 4 => ⟨S4096x50x1, .i32⟩
  | 5 => ⟨S4096x50x1, .i1⟩
  | 6 => ⟨S4096x50x1, .i1⟩
  | 7 => ⟨S_, .i1⟩
  | 8 => ⟨S4096x50, .i1⟩
  | 9 => ⟨S4096x50x128, .f32⟩
  | 10 => ⟨S4096x50x128, .i1⟩
  | 11 => ⟨S_, .f32⟩
  | 12 => ⟨S4096x50x128, .f32⟩
  | 13 => ⟨S4096x50x128, .f32⟩
  | 14 => ⟨S4096x50x128, .f32⟩
  | 15 => ⟨S_, .i32⟩
  | 16 => ⟨S4096x50, .i32⟩
  | 17 => ⟨S4096x50, .i1⟩
  | 18 => ⟨S_, .i32⟩
  | 19 => ⟨S4096x50, .i32⟩
  | 20 => ⟨S4096x50, .i32⟩
  | 21 => ⟨S4096x50, .i32⟩
  | 22 => ⟨S4096x50x1, .i32⟩
  | 23 => ⟨S1, .i32⟩
  | 24 => ⟨S_, .i32⟩
  | 25 => ⟨S4096x50x1, .i32⟩
  | 26 => ⟨S4096x50x1, .i1⟩
  | 27 => ⟨S1x1x1, .i32⟩
  | 28 => ⟨S4096x50x1, .i32⟩
  | 29 => ⟨S4096x50x1, .i1⟩
  | 30 => ⟨S4096x50x1, .i1⟩
  | 31 => ⟨S_, .i1⟩
  | 32 => ⟨S4096x50, .i1⟩
  | 33 => ⟨S4096x50x128, .f32⟩
  | 34 => ⟨S4096x50x128, .i1⟩
  | 35 => ⟨S_, .f32⟩
  | 36 => ⟨S4096x50x128, .f32⟩
  | 37 => ⟨S4096x50x128, .f32⟩
  | 38 => ⟨S4096x50x128, .f32⟩
  | 39 => ⟨S4096x50x128, .f32⟩
  | 40 => ⟨S4096x50x1, .i1⟩
  | 41 => ⟨S_, .f32⟩
  | 42 => ⟨S4096x50x128, .f32⟩
  | 43 => ⟨S4096x50x128, .i1⟩
  | 44 => ⟨S4096x50x128, .f32⟩
  | _ => ⟨S4096x50, .i32⟩

abbrev hbmTy (i : Nat) : BufTy := match i / 128 with
  | 0 => hbmTy0_0 i
  | 1 => hbmTy0_1 i
  | _ => ⟨S4096x50, .i32⟩

abbrev bufTy : (tb : Table) → Fin (tcTables nBuf tb) → BufTy
  | .hbm, ⟨i, _⟩ => hbmTy i
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v5 : Ref sig .tc := ⟨.hbm, 25, rfl⟩
abbrev main_c_3 : Ref sig .tc := ⟨.hbm, 26, rfl⟩
abbrev main_c_4 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v6 : Ref sig .tc := ⟨.hbm, 33, rfl⟩
abbrev main_c_5 : Ref sig .tc := ⟨.hbm, 34, rfl⟩
abbrev main_v7 : Ref sig .tc := ⟨.hbm, 35, rfl⟩
abbrev main_v8 : Ref sig .tc := ⟨.hbm, 36, rfl⟩
abbrev main_c_6 : Ref sig .tc := ⟨.hbm, 37, rfl⟩
abbrev main_c_7 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst : Ref sig .tc := ⟨.hbm, 49, rfl⟩
abbrev main_v14 : Ref sig .tc := ⟨.hbm, 50, rfl⟩
abbrev main_v15 : Ref sig .tc := ⟨.hbm, 51, rfl⟩
abbrev main_cst_8 : Ref sig .tc := ⟨.hbm, 52, rfl⟩
abbrev main_v16 : Ref sig .tc := ⟨.hbm, 53, rfl⟩
abbrev main_v17 : Ref sig .tc := ⟨.hbm, 54, rfl⟩
abbrev main_c_9 : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_cst_0 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_cst_1 : Ref sig .tc := ⟨.hbm, 66, rfl⟩
abbrev main_call3_v8 : Ref sig .tc := ⟨.hbm, 67, rfl⟩
abbrev main_call3_cst_2 : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_v12 : Ref sig .tc := ⟨.hbm, 72, rfl⟩
abbrev main_call3_cst_3 : Ref sig .tc := ⟨.hbm, 73, rfl⟩
abbrev main_call3_v13 : Ref sig .tc := ⟨.hbm, 74, rfl⟩
abbrev main_call3_cst_4 : Ref sig .tc := ⟨.hbm, 75, rfl⟩
abbrev main_call3_call0_v0 : Ref sig .tc := ⟨.hbm, 76, rfl⟩
abbrev main_call3_call0_v1 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_cst_10 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_cst_11 : Ref sig .tc := ⟨.hbm, 93, rfl⟩
abbrev main_v32 : Ref sig .tc := ⟨.hbm, 94, rfl⟩
abbrev main_v33 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_v14 : Ref sig .tc := ⟨.hbm, 115, rfl⟩
abbrev main_call4_cst : Ref sig .tc := ⟨.hbm, 116, rfl⟩
abbrev main_call4_v15 : Ref sig .tc := ⟨.hbm, 117, rfl⟩
abbrev main_v34 : Ref sig .tc := ⟨.hbm, 118, rfl⟩
abbrev main_call5_c : Ref sig .tc := ⟨.hbm, 119, rfl⟩
abbrev main_call5_v0 : Ref sig .tc := ⟨.hbm, 120, rfl⟩
abbrev main_call5_v1 : Ref sig .tc := ⟨.hbm, 121, rfl⟩
abbrev main_call5_c_0 : Ref sig .tc := ⟨.hbm, 122, rfl⟩
abbrev main_call5_v2 : Ref sig .tc := ⟨.hbm, 123, rfl⟩
abbrev main_call5_v3 : Ref sig .tc := ⟨.hbm, 124, rfl⟩
abbrev main_call5_v4 : Ref sig .tc := ⟨.hbm, 125, rfl⟩
abbrev main_call5_v5 : Ref sig .tc := ⟨.hbm, 126, rfl⟩
abbrev main_call5_c_1 : Ref sig .tc := ⟨.hbm, 127, rfl⟩
abbrev main_call5_c_2 : Ref sig .tc := ⟨.hbm, 128, rfl⟩
abbrev main_call5_v6 : Ref sig .tc := ⟨.hbm, 129, rfl⟩
abbrev main_call5_v7 : Ref sig .tc := ⟨.hbm, 130, rfl⟩
abbrev main_call5_v8 : Ref sig .tc := ⟨.hbm, 131, rfl⟩
abbrev main_call5_v9 : Ref sig .tc := ⟨.hbm, 132, rfl⟩
abbrev main_call5_v10 : Ref sig .tc := ⟨.hbm, 133, rfl⟩
abbrev main_call5_v11 : Ref sig .tc := ⟨.hbm, 134, rfl⟩
abbrev main_call5_c_3 : Ref sig .tc := ⟨.hbm, 135, rfl⟩
abbrev main_call5_v12 : Ref sig .tc := ⟨.hbm, 136, rfl⟩
abbrev main_call5_v13 : Ref sig .tc := ⟨.hbm, 137, rfl⟩
abbrev main_call5_v14 : Ref sig .tc := ⟨.hbm, 138, rfl⟩
abbrev main_call5_cst : Ref sig .tc := ⟨.hbm, 139, rfl⟩
abbrev main_call5_v15 : Ref sig .tc := ⟨.hbm, 140, rfl⟩
abbrev main_v35 : Ref sig .tc := ⟨.hbm, 141, rfl⟩
abbrev main_v36 : Ref sig .tc := ⟨.hbm, 142, rfl⟩
abbrev main_call6_c : Ref sig .tc := ⟨.hbm, 143, rfl⟩
abbrev main_call6_v0 : Ref sig .tc := ⟨.hbm, 144, rfl⟩
abbrev main_call6_v1 : Ref sig .tc := ⟨.hbm, 145, rfl⟩
abbrev main_call6_c_0 : Ref sig .tc := ⟨.hbm, 146, rfl⟩
abbrev main_call6_v2 : Ref sig .tc := ⟨.hbm, 147, rfl⟩
abbrev main_call6_v3 : Ref sig .tc := ⟨.hbm, 148, rfl⟩
abbrev main_call6_v4 : Ref sig .tc := ⟨.hbm, 149, rfl⟩
abbrev main_call6_v5 : Ref sig .tc := ⟨.hbm, 150, rfl⟩
abbrev main_call6_c_1 : Ref sig .tc := ⟨.hbm, 151, rfl⟩
abbrev main_call6_c_2 : Ref sig .tc := ⟨.hbm, 152, rfl⟩
abbrev main_call6_v6 : Ref sig .tc := ⟨.hbm, 153, rfl⟩
abbrev main_call6_v7 : Ref sig .tc := ⟨.hbm, 154, rfl⟩
abbrev main_call6_v8 : Ref sig .tc := ⟨.hbm, 155, rfl⟩
abbrev main_call6_v9 : Ref sig .tc := ⟨.hbm, 156, rfl⟩
abbrev main_call6_v10 : Ref sig .tc := ⟨.hbm, 157, rfl⟩
abbrev main_call6_v11 : Ref sig .tc := ⟨.hbm, 158, rfl⟩
abbrev main_call6_c_3 : Ref sig .tc := ⟨.hbm, 159, rfl⟩
abbrev main_call6_v12 : Ref sig .tc := ⟨.hbm, 160, rfl⟩
abbrev main_call6_v13 : Ref sig .tc := ⟨.hbm, 161, rfl⟩
abbrev main_call6_v14 : Ref sig .tc := ⟨.hbm, 162, rfl⟩
abbrev main_call6_cst : Ref sig .tc := ⟨.hbm, 163, rfl⟩
abbrev main_call6_v15 : Ref sig .tc := ⟨.hbm, 164, rfl⟩
abbrev main_v37 : Ref sig .tc := ⟨.hbm, 165, rfl⟩
abbrev main_v38 : Ref sig .tc := ⟨.hbm, 166, rfl⟩
abbrev main_v39 : Ref sig .tc := ⟨.hbm, 167, rfl⟩
abbrev main_v40 : Ref sig .tc := ⟨.hbm, 168, rfl⟩
abbrev main_cst_12 : Ref sig .tc := ⟨.hbm, 169, rfl⟩
abbrev main_v41 : Ref sig .tc := ⟨.hbm, 170, rfl⟩
abbrev main_call7_v0 : Ref sig .tc := ⟨.hbm, 171, rfl⟩
abbrev main_v42 : Ref sig .tc := ⟨.hbm, 172, rfl⟩

abbrev nD : Nat := 1
abbrev τ : Topo := Topo.v7x

variable {F : FTy → Type} [FloatOps F]
-- ==== Proof.Pairs.lean ====
/- Concatenations of many equal pairs (a piece followed by a fixed pad), read at an index. -/
module

public import Idealize.ShloMosaic.Lib.Pipeline.Value

@[expose] public section

set_option maxRecDepth 16384

noncomputable section

namespace Cert.Pairs

open Idealize.ShloMosaic

variable {α : Type}

/-- The list piece `k`, pad, piece `k + 1`, pad, … of `n` pieces, each followed by the same pad (piece numbers taken
    modulo 128). -/
def pairs (f : Fin 128 → (s : Shape) × (s.Idx → α)) (z : (s : Shape) × (s.Idx → α)) :
    Nat → Nat → List ((s : Shape) × (s.Idx → α))
  | _, 0 => []
  | k, n + 1 => f (Fin.ofNat 128 k) :: z :: pairs f z (k + 1) n

/-- It holds two members per piece. -/
theorem length_pairs (f : Fin 128 → (s : Shape) × (s.Idx → α)) (z : (s : Shape) × (s.Idx → α)) :
    ∀ n k : Nat, (pairs f z k n).length = 2 * n
  | 0, _ => rfl
  | n + 1, k => by simp only [pairs, List.length_cons, length_pairs f z n (k + 1)]; omega

/-- The shapes of `n` pairs. -/
def shapes (s₁ s₂ : Shape) : Nat → List Shape
  | 0 => []
  | n + 1 => s₁ :: s₂ :: shapes s₁ s₂ n

/-- The shapes of a list of pairs do not depend on its values. -/
theorem map_pairs {s₁ s₂ : Shape} (f : Fin 128 → s₁.Idx → α) (z : s₂.Idx → α) :
    ∀ n k : Nat, (pairs (fun i => ⟨s₁, f i⟩) ⟨s₂, z⟩ k n).map (·.1) = shapes s₁ s₂ n
  | 0, _ => rfl
  | n + 1, k => congrArg (fun l => s₁ :: s₂ :: l) (map_pairs f z n (k + 1))

/-- Member `2 * i` is piece `k + i`. -/
theorem getElem_pairs (f : Fin 128 → (s : Shape) × (s.Idx → α)) (z : (s : Shape) × (s.Idx → α)) :
    ∀ (n k i : Nat) (h : 2 * i < (pairs f z k n).length), (pairs f z k n)[2 * i] = f (Fin.ofNat 128 (k + i))
  | 0, _, _, h => absurd h (by simp [pairs])
  | n + 1, k, 0, _ => rfl
  | n + 1, k, i + 1, h => by
    have h' : 2 * i < (pairs f z (k + 1) n).length := by
      rw [length_pairs] at h ⊢; omega
    have := getElem_pairs f z n (k + 1) i h'
    rw [show k + (i + 1) = k + 1 + i by omega, ← this]
    simp only [pairs, show 2 * (i + 1) = 2 * i + 1 + 1 by omega, List.getElem_cons_succ]

/-- The extents of the first `2 * i` members add to `i` times a pair's extent. -/
theorem sum_take_pairs (f : Fin 128 → (s : Shape) × (s.Idx → α)) (z : (s : Shape) × (s.Idx → α)) (g : Shape → Nat)
    (a b : Nat) (hf : ∀ i, g (f i).1 = a) (hz : g z.1 = b) :
    ∀ (n k i : Nat), i ≤ n → ((((pairs f z k n).take (2 * i)).map (·.1)).map g).sum = (a + b) * i
  | _, _, 0, _ => by simp
  | 0, _, i + 1, h => absurd h (by omega)
  | n + 1, k, i + 1, h => by
    have := sum_take_pairs f z g a b hf hz n (k + 1) i (by omega)
    simp only [pairs, show 2 * (i + 1) = 2 * i + 1 + 1 by omega, List.take_succ_cons, List.map_cons, List.sum_cons, this, hf, hz]
    rw [Nat.mul_succ]; omega

/-- A concatenation of 128 pairs, read at an index inside piece `i`: that piece at the index with the same other
    coordinates, its axis coordinate counted from the pair's start. -/
theorem concatenate_pairs {t s₁ s₂ : Shape} (a : Fin t.rank) (f : Fin 128 → s₁.Idx → α) (z : s₂.Idx → α)
    (h : Shape.Concatenates ((pairs (fun i => ⟨s₁, f i⟩) ⟨s₂, z⟩ 0 128).map (·.1)) t a)
    (hr₁ : s₁.rank = t.rank) (hr₂ : s₂.rank = t.rank) (j : t.Idx) (i : Fin 128) (y : s₁.Idx)
    (hy : ∀ b : Fin s₁.rank, b.cast hr₁ ≠ a → (y b).val = (j (b.cast hr₁)).val)
    (ha : (s₁.size (a.cast hr₁.symm) + s₂.size (a.cast hr₂.symm)) * i.val + (y (a.cast hr₁.symm)).val = (j a).val) :
    concatenate t a (pairs (fun i => ⟨s₁, f i⟩) ⟨s₂, z⟩ 0 128) h j = f i y := by
  have hi : (Fin.ofNat 128 (0 + i.val)) = i := by
    apply Fin.ext; simp [Nat.mod_eq_of_lt i.isLt]
  have hk : 2 * i.val < (pairs (fun i => (⟨s₁, f i⟩ : (s : Shape) × (s.Idx → α))) ⟨s₂, z⟩ 0 128).length := by
    rw [length_pairs]; have := i.isLt; omega
  refine concatenate_apply_piece a _ h j (2 * i.val) hk s₁ (f i) ?_ hr₁ _ ?_ y hy ha
  · rw [getElem_pairs, hi]
  · exact sum_take_pairs _ _ _ _ _ (fun _ => dif_pos hr₁) (dif_pos hr₂) 128 0 i.val (by have := i.isLt; omega)

end Cert.Pairs

end
-- ==== Proof.Body.lean ====
/- The kernel body at one grid point, as one function of the blocks it reads. -/
module

public import proofs.«01_k».proof.Proof.Gen.KernelIdeal.Value
public import proofs.«01_k».proof.Proof.Pairs

@[expose] public section

set_option maxRecDepth 16384

noncomputable section

namespace Cert.Body

open Cert.KernelIdeal Cert.KernelIdeal.Gen Cert.Pairs Idealize.ShloMosaic Idealize.ShloMosaic.TcCoe Idealize.SL.Sem
open Idealize.SL Idealize.SL.RA

variable {F : FTy → Type} [FloatOps F]

theorem inb_row (i : Fin 128) : ∀ a, (![i.val, 0, 0] : Fin 3 → Nat) a + S1x50x32.size a ≤ S128x50x32.size a := by
  have := i.isLt; intro a; fin_cases a <;> simp <;> omega
theorem inb_out (i : Fin 128) : ∀ a, (![i.val, 0, 0] : Fin 3 → Nat) a + (![1, 50, 128] : Fin 3 → Nat) a ≤ S128x50x128.size a := by
  have := i.isLt; intro a; fin_cases a <;> simp <;> omega
theorem inb_ids (i : Fin 128) : ∀ a, (![i.val, 0] : Fin 2 → Nat) a + S1x50.size a ≤ S128x50.size a := by
  have := i.isLt; intro a; fin_cases a <;> simp <;> omega
theorem slices_row (i : Fin 128) : S7168x128.Slices ![56 * i.val, 0] S50x128 := by
  have := i.isLt
  refine ⟨rfl, ?_⟩
  intro a; fin_cases a <;> simp <;> omega

/-- The features of 128 rows, each row followed by six zero rows. -/
def xcat (xr : Fin 128 → S1x50x32.Idx → F .f32) : FVec F S7168x32 .f32 :=
  concatenate S7168x32 0 (pairs (fun i => ⟨S50x32, shapeCast S50x32 (xr i) shapeCasts_S1x50x32_S50x32⟩) ⟨S6x32, k0_pay2⟩ 0 128)
    (by rw [map_pairs]; decide +kernel)

/-- The numbers of 128 rows, each row followed by six entries of −1. -/
def icat (ir : Fin 128 → S1x50.Idx → BitVec 32) : IVec S1x7168 32 :=
  concatenate S1x7168 1 (pairs (fun i => ⟨S1x50, ir i⟩) ⟨S1x6, k0_pay127⟩ 0 128)
    (by rw [map_pairs]; decide +kernel)

/-- The indicator of the tokens a row's position belongs to the betting range: `10 ≤ token < 42`. -/
def betting (ids : IVec S1x7168 32) : IVec S1x7168 1 :=
  andi (cmpi .sge ids (broadcast S1x7168 10#32)) (cmpi .slt ids (broadcast S1x7168 42#32))

/-- The numbers clipped to `lo … hi`. -/
def clip (lo hi : BitVec 32) (v : IVec S1x7168 32) : IVec S1x7168 32 :=
  minsi (broadcast S1x7168 hi) (maxsi (broadcast S1x7168 lo) v)

/-- The numbers where the indicator holds, −1 elsewhere. -/
def orNone (c : IVec S1x7168 1) (v : IVec S1x7168 32) : IVec S1x7168 32 :=
  select c v (broadcast S1x7168 4294967295#32)

/-- Which of the 40 packed rows a position names by a row number. -/
def named (v : IVec S1x7168 32) : IVec S40x7168 1 :=
  cmpi .eq (iota .tc S40x7168 32 [0] iota_S40x7168_d0_w32) (broadcastTo S40x7168 v broadcasts_S1x7168_S40x7168)

/-- The sums of the packed rows each position names: its action's row, its street's row, its token's row. -/
def gathered (tok act st : IVec S1x7168 32) (p : Vec F S40x256 .f32) : FVec F S7168x256 .f32 :=
  matmul dot_S40x7168_S40x256_S7168x256_0_0_1_1_n_n none
    (select
      (ori (ori (named (orNone (betting tok) (clip 0#32 1#32 act)))
          (named (orNone (betting tok) (addi (clip 0#32 3#32 st) (broadcast S1x7168 2#32)))))
        (named (orNone (betting tok)
          (addi (clip 0#32 31#32 (subi tok (broadcast S1x7168 10#32))) (broadcast S1x7168 6#32)))))
      (broadcast S40x7168 (Scalar.ofBits .f32 0x3F800000#32)) (broadcast S40x7168 (Scalar.ofBits .f32 0x00000000#32)))
    (shapeCast S40x256 p shapeCasts_S40x256_S40x256) (constant S7168x256 .f32 0x00000000#32)

/-- What the body computes for its 7168 positions (128 rows of 50, each padded to 56), from its rows of features, tokens,
    actions and streets and the prepared weights. -/
def rows (xr : Fin 128 → S1x50x32.Idx → F .f32) (tr ar sr : Fin 128 → S1x50.Idx → BitVec 32) (w : Vec F S32x256 .f32)
    (b : Vec F S1x256 .f32) (g be : Vec F S1x128 .f32) (p : Vec F S40x256 .f32) : FVec F S7168x128 .f32 :=
  k0_pay132 (k0_pay126 (xcat xr) w b g be) (gathered (icat tr) (icat ar) (icat sr) p)

/-- The stores of the first `n` rows of the block, last first: row `i` is the 50 positions from `56 * i` on. -/
def stores (v : FVec F S7168x128 .f32) : Nat → List (View.Piece (Elt F) S128x50x128 .f32)
  | 0 => []
  | n + 1 =>
    ⟨Rect.unit ![(Fin.ofNat 128 n).val, 0, 0] ![1, 50, 128] (inb_out (Fin.ofNat 128 n)),
      shapeCast S1x50x128 (extractStridedSlice S50x128 ![56 * (Fin.ofNat 128 n).val, 0] v (slices_row (Fin.ofNat 128 n)))
        shapeCasts_S50x128_S1x50x128⟩ :: stores v n

section Runs
variable (c : Dev nD) (t : Fin cfg0.N) (arg1 : Memref sig .tc .vmem S128x50 .i32) (harg1 : arg1.IsWhole) (arg2 : Memref sig .tc .vmem S128x50 .i32) (harg2 : arg2.IsWhole) (arg3 : Memref sig .tc .vmem S128x50 .i32) (harg3 : arg3.IsWhole) (arg5 : Memref sig .tc .vmem S32x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S40x256 .f32) (harg9 : arg9.IsWhole) (arg10 : Memref sig .tc .vmem S128x50x128 .f32) (harg10 : arg10.IsWhole)
    (x0 : Vec F S128x50 .i32) (x1 : Vec F S128x50 .i32) (x2 : Vec F S128x50 .i32) (x3 : Vec F S32x256 .f32) (x4 : Vec F S1x256 .f32) (x5 : Vec F S1x128 .f32) (x6 : Vec F S1x128 .f32) (x7 : Vec F S40x256 .f32) (fh0 : HbBuf0 (F := F) c hbM0_0)

/-- The positions' values from the staged blocks as the body loads them: rows of features from the landed ring slot, rows
    of tokens, actions and streets from their windows, the prepared weights whole. -/
def loaded : FVec F S7168x128 .f32 :=
  rows (fun i => (rslot0_0 (Ring.sl 2 t.val)).view.readCov
      [⟨Rect.whole S128x50x32, ReadAs.same.apply (View.read (Elt F) (srcB0_0 (Ring.bk 32 t.val)).view fh0)⟩]
      (Rect.unit (s := S128x50x32) ![i.val, 0, 0] S1x50x32.size (inb_row i)).toLoadRect)
    (fun i => View.readAt (Elt F) arg1.view (Rect.unit (s := S128x50) ![i.val, 0] S1x50.size (inb_ids i)).toLoadRect (harg1.unread x0))
    (fun i => View.readAt (Elt F) arg2.view (Rect.unit (s := S128x50) ![i.val, 0] S1x50.size (inb_ids i)).toLoadRect (harg2.unread x1))
    (fun i => View.readAt (Elt F) arg3.view (Rect.unit (s := S128x50) ![i.val, 0] S1x50.size (inb_ids i)).toLoadRect (harg3.unread x2))
    (View.readAt (Elt F) arg5.view (Rect.unit ![0, 0] S32x256.size inb_S32x256_S32x256_0_0).toLoadRect (harg5.unread x3))
    (View.readAt (Elt F) arg6.view (Rect.unit ![0, 0] S1x256.size inb_S1x256_S1x256_0_0).toLoadRect (harg6.unread x4))
    (View.readAt (Elt F) arg7.view (Rect.unit ![0, 0] S1x128.size inb_S1x128_S1x128_0_0).toLoadRect (harg7.unread x5))
    (View.readAt (Elt F) arg8.view (Rect.unit ![0, 0] S1x128.size inb_S1x128_S1x128_0_0).toLoadRect (harg8.unread x6))
    (View.readAt (Elt F) arg9.view (Rect.unit ![0, 0] S40x256.size inb_S40x256_S40x256_0_0).toLoadRect (harg9.unread x7))

/-- At the first grid point the body stores the rows of those values. -/
theorem stored_A (hc0 : cond0_0 (grid0.coords t)) (hc1 : cond0_1 (grid0.coords t)) :
    (kernelRun0_A c t arg1 harg1 arg2 harg2 arg3 harg3 arg5 harg5 arg6 harg6 arg7 harg7 arg8 harg8 arg9 harg9 arg10 harg10 hc0 hc1 x0 x1 x2 x3 x4 x5 x6 x7 fh0).1
      = stores (loaded c t arg1 harg1 arg2 harg2 arg3 harg3 arg5 harg5 arg6 harg6 arg7 harg7 arg8 harg8 arg9 harg9 x0 x1 x2 x3 x4 x5 x6 x7 fh0) 128 := by
  rfl

/-- So does it at the points between. -/
theorem stored_B (hc0 : ¬cond0_0 (grid0.coords t)) (hc1 : cond0_1 (grid0.coords t)) :
    (kernelRun0_B c t arg1 harg1 arg2 harg2 arg3 harg3 arg5 harg5 arg6 harg6 arg7 harg7 arg8 harg8 arg9 harg9 arg10 harg10 hc0 hc1 x0 x1 x2 x3 x4 x5 x6 x7 fh0).1
      = stores (loaded c t arg1 harg1 arg2 harg2 arg3 harg3 arg5 harg5 arg6 harg6 arg7 harg7 arg8 harg8 arg9 harg9 x0 x1 x2 x3 x4 x5 x6 x7 fh0) 128 := by
  rfl

/-- And at the last point. -/
theorem stored_C (hc0 : ¬cond0_0 (grid0.coords t)) (hc1 : ¬cond0_1 (grid0.coords t)) :
    (kernelRun0_C c t arg1 harg1 arg2 harg2 arg3 harg3 arg5 harg5 arg6 harg6 arg7 harg7 arg8 harg8 arg9 harg9 arg10 harg10 hc0 hc1 x0 x1 x2 x3 x4 x5 x6 x7 fh0).1
      = stores (loaded c t arg1 harg1 arg2 harg2 arg3 harg3 arg5 harg5 arg6 harg6 arg7 harg7 arg8 harg8 arg9 harg9 x0 x1 x2 x3 x4 x5 x6 x7 fh0) 128 := by
  rfl

end Runs

end Cert.Body

end
-- ==== Proof.Block.lean ====
/- What the kernel body leaves in its output block at one grid point, at an index. -/
module

public import proofs.«01_k».proof.Proof.Body
public import Idealize.ShloMosaic.Lib.Pointwise

@[expose] public section

set_option maxRecDepth 16384

noncomputable section

namespace Cert.Block

open Cert.KernelIdeal Cert.KernelIdeal.Gen Cert.Body Cert.Pairs Idealize.ShloMosaic Idealize.ShloMosaic.TcCoe Idealize.SL.Sem
open Idealize.SL Idealize.SL.RA

variable {F : FTy → Type} [FloatOps F]

/-- Position `l` of row `i` among the 7168 padded positions. -/
def pos (i : Fin 128) (l : Fin 50) : Fin 7168 := ⟨56 * i.val + l.val, by have := i.isLt; have := l.isLt; omega⟩

/-- The values of the 7168 positions laid out as the block's rows. -/
def laid (v : FVec F S7168x128 .f32) : S128x50x128.Idx → F .f32 := fun y => v (ix2 (pos (y 0) (y 1)) (y 2))

/-- A stored row, at an index, is the layout at the row's place. -/
theorem row_laid (v : FVec F S7168x128 .f32) (i : Fin 128) (x : (Rect.unit (s := S128x50x128) ![i.val, 0, 0] ![1, 50, 128] (inb_out i)).shape.Idx) :
    (shapeCast S1x50x128 (extractStridedSlice S50x128 ![56 * i.val, 0] v (slices_row i)) shapeCasts_S50x128_S1x50x128 : S1x50x128.Idx → F .f32) x
      = laid v ((Rect.unit (s := S128x50x128) ![i.val, 0, 0] ![1, 50, 128] (inb_out i)).emb x) := by
  change S1x50x128.Idx at x
  idx_vars x
  have e : (Rect.unit (s := S128x50x128) ![i.val, 0, 0] ![1, 50, 128] (inb_out i)).emb (ix3 x0 x1 x2) = ix3 i x1 x2 := by
    have h0 := x0.isLt
    funext a
    apply Fin.ext
    show (![i.val, 0, 0] : Fin 3 → Nat) a + 1 * (ix3 x0 x1 x2 a).val = _
    fin_cases a <;> simp [ix3] <;> omega
  rw [e]
  pointwise [laid]
  rfl

/-- Every store writes its part of that layout. -/
theorem stores_laid (v : FVec F S7168x128 .f32) :
    ∀ n : Nat, ∀ p ∈ stores v n, ∀ x : p.1.shape.Idx, p.2 x = laid v (p.1.emb x)
  | 0, _, hp, _ => absurd hp List.not_mem_nil
  | n + 1, p, hp, x => by
    rcases List.mem_cons.mp hp with rfl | hp
    · exact row_laid v (Fin.ofNat 128 n) x
    · exact stores_laid v n p hp x

/-- The first `n` stores cover the first `n` rows. -/
theorem stores_cover (v : FVec F S7168x128 .f32) :
    ∀ n : Nat, n ≤ 128 → ∀ y : S128x50x128.Idx, (y 0).val < n → ∃ p ∈ stores v n, y ∈ p.1.set
  | 0, _, _, h => absurd h (by omega)
  | n + 1, hn, y, h => by
    by_cases hy : (y 0).val = n
    · refine ⟨_, List.mem_cons_self, ?_⟩
      show y ∈ (Rect.unit (s := S128x50x128) ![(Fin.ofNat 128 n).val, 0, 0] ![1, 50, 128] (inb_out (Fin.ofNat 128 n))).set
      rw [Rect.mem_set_unit]
      have : (Fin.ofNat 128 n).val = n := Nat.mod_eq_of_lt (by omega)
      have h1 : (y 1).val < 50 := (y 1).isLt
      have h2 : (y 2).val < 128 := (y 2).isLt
      intro a; fin_cases a <;> simp <;> omega
    · obtain ⟨p, hp, hm⟩ := stores_cover v n (by omega) y (by omega)
      exact ⟨p, List.mem_cons_of_mem _ hp, hm⟩

/-- So the block the stores leave is that layout. -/
theorem read_stores (v : FVec F S7168x128 .f32) :
    VO0_8.read (Elt F) (VO0_8.writes (Elt F) VO0_8.junk (stores v 128)) = laid v := by
  have hc : ∀ y : S128x50x128.Idx, ∃ p ∈ stores v 128, y ∈ p.1.set := fun y => stores_cover v 128 (le_refl _) y (y 0).isLt
  rw [View.read_writes_eq_canon _ _ _ hc]
  exact funext fun y => View.canon_apply_of_pieces (laid v) _ (stores_laid v 128) y (hc y)

section Runs
variable (c : Dev nD) (t : Fin cfg0.N) (arg1 : Memref sig .tc .vmem S128x50 .i32) (harg1 : arg1.IsWhole) (arg2 : Memref sig .tc .vmem S128x50 .i32) (harg2 : arg2.IsWhole) (arg3 : Memref sig .tc .vmem S128x50 .i32) (harg3 : arg3.IsWhole) (arg5 : Memref sig .tc .vmem S32x256 .f32) (harg5 : arg5.IsWhole) (arg6 : Memref sig .tc .vmem S1x256 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S40x256 .f32) (harg9 : arg9.IsWhole) (arg10 : Memref sig .tc .vmem S128x50x128 .f32) (harg10 : arg10.IsWhole)
    (x0 : Vec F S128x50 .i32) (x1 : Vec F S128x50 .i32) (x2 : Vec F S128x50 .i32) (x3 : Vec F S32x256 .f32) (x4 : Vec F S1x256 .f32) (x5 : Vec F S1x128 .f32) (x6 : Vec F S1x128 .f32) (x7 : Vec F S40x256 .f32) (fh0 : HbBuf0 (F := F) c hbM0_0)

/-- Row `i` of a block of features. -/
def xrow (X : S128x50x32.Idx → F .f32) (i : Fin 128) : S1x50x32.Idx → F .f32 := fun y => X (ix3 i (y 1) (y 2))

/-- Row `i` of a block of numbers. -/
def irow (x : Vec F S128x50 .i32) (i : Fin 128) : S1x50.Idx → BitVec 32 := fun y => x (ix2 i (y 1))

/-- The block of a grid point from its inputs: features, tokens, actions, streets (128 rows each) and prepared weights. -/
def block (X : S128x50x32.Idx → F .f32) (x0 x1 x2 : Vec F S128x50 .i32) (x3 : Vec F S32x256 .f32) (x4 : Vec F S1x256 .f32)
    (x5 x6 : Vec F S1x128 .f32) (x7 : Vec F S40x256 .f32) : S128x50x128.Idx → F .f32 :=
  laid (rows (xrow X) (irow x0) (irow x1) (irow x2) x3 x4 x5 x6 x7)

/-- A load of a row of numbers is that row. -/
theorem ld_irow (x : Vec F S128x50 .i32) (i : Fin 128) :
    View.ld x (Rect.unit (s := S128x50) ![i.val, 0] S1x50.size (inb_ids i)) = irow x i := by
  funext y
  change S1x50.Idx at y
  idx_vars y
  pointwise [irow]

/-- A load of a row of a buffer just filled is that row of what filled it. -/
theorem readCov_xrow {sp : Space} (v : View sig .tc sp S128x50x32 .f32) (X : S128x50x32.Idx → F .f32) (i : Fin 128) :
    v.readCov [(⟨Rect.whole S128x50x32, ReadAs.same.apply X⟩ : View.Piece (Elt F) S128x50x32 .f32)]
      (Rect.unit (s := S128x50x32) ![i.val, 0, 0] S1x50x32.size (inb_row i)).toLoadRect = xrow X i := by
  rw [View.readCov_eq_canon']
  funext y
  change S1x50x32.Idx at y
  have := View.canon_cons_emb (Val := Elt F) (e := .f32) (Rect.whole S128x50x32) (ReadAs.same.apply X) []
  simp only [Rect.emb_whole_apply] at this
  refine (this _).trans ?_
  idx_vars y
  pointwise [xrow]

/-- The values computed from the loads, laid out, are the block of the staged inputs. -/
theorem laid_loaded : laid (loaded c t arg1 harg1 arg2 harg2 arg3 harg3 arg5 harg5 arg6 harg6 arg7 harg7 arg8 harg8 arg9 harg9 x0 x1 x2 x3 x4 x5 x6 x7 fh0)
    = block (View.read (Elt F) (srcB0_0 (Ring.bk 32 t.val)).view fh0) x0 x1 x2 x3 x4 x5 x6 x7 := by
  have z : (![0, 0] : Fin 2 → Nat) = fun _ => 0 := by funext a; fin_cases a <;> rfl
  refine congrArg laid ?_
  unfold loaded
  congr 1
  · exact funext fun i => readCov_xrow _ _ i
  · exact funext fun i => (congrArg (fun x => View.ld x _) (harg1.read_unread x0)).trans (ld_irow x0 i)
  · exact funext fun i => (congrArg (fun x => View.ld x _) (harg2.read_unread x1)).trans (ld_irow x1 i)
  · exact funext fun i => (congrArg (fun x => View.ld x _) (harg3.read_unread x2)).trans (ld_irow x2 i)
  · exact (congrArg (fun x => View.ld x _) (harg5.read_unread x3)).trans (View.ld_unit_zero (S := S32x256) z _ _)
  · exact (congrArg (fun x => View.ld x _) (harg6.read_unread x4)).trans (View.ld_unit_zero (S := S1x256) z _ _)
  · exact (congrArg (fun x => View.ld x _) (harg7.read_unread x5)).trans (View.ld_unit_zero (S := S1x128) z _ _)
  · exact (congrArg (fun x => View.ld x _) (harg8.read_unread x6)).trans (View.ld_unit_zero (S := S1x128) z _ _)
  · exact (congrArg (fun x => View.ld x _) (harg9.read_unread x7)).trans (View.ld_unit_zero (S := S40x256) z _ _)

theorem out_A (hc0 : cond0_0 (grid0.coords t)) (hc1 : cond0_1 (grid0.coords t)) :
    out0_A_8 c t arg1 harg1 arg2 harg2 arg3 harg3 arg5 harg5 arg6 harg6 arg7 harg7 arg8 harg8 arg9 harg9 arg10 harg10 hc0 hc1 x0 x1 x2 x3 x4 x5 x6 x7 fh0
      = block (View.read (Elt F) (srcB0_0 (Ring.bk 32 t.val)).view fh0) x0 x1 x2 x3 x4 x5 x6 x7 := by
  unfold out0_A_8
  rw [stored_A, read_stores, laid_loaded]

theorem out_B (hc0 : ¬cond0_0 (grid0.coords t)) (hc1 : cond0_1 (grid0.coords t)) :
    out0_B_8 c t arg1 harg1 arg2 harg2 arg3 harg3 arg5 harg5 arg6 harg6 arg7 harg7 arg8 harg8 arg9 harg9 arg10 harg10 hc0 hc1 x0 x1 x2 x3 x4 x5 x6 x7 fh0
      = block (View.read (Elt F) (srcB0_0 (Ring.bk 32 t.val)).view fh0) x0 x1 x2 x3 x4 x5 x6 x7 := by
  unfold out0_B_8
  rw [stored_B, read_stores, laid_loaded]

theorem out_C (hc0 : ¬cond0_0 (grid0.coords t)) (hc1 : ¬cond0_1 (grid0.coords t)) :
    out0_C_8 c t arg1 harg1 arg2 harg2 arg3 harg3 arg5 harg5 arg6 harg6 arg7 harg7 arg8 harg8 arg9 harg9 arg10 harg10 hc0 hc1 x0 x1 x2 x3 x4 x5 x6 x7 fh0
      = block (View.read (Elt F) (srcB0_0 (Ring.bk 32 t.val)).view fh0) x0 x1 x2 x3 x4 x5 x6 x7 := by
  unfold out0_C_8
  rw [stored_C, read_stores, laid_loaded]

end Runs

end Cert.Block

end
-- ==== Proof.Arrays.lean ====
/- The kernel's result array after the run, from its arguments, block by block. -/
module

public import proofs.«01_k».proof.Proof.Block

@[expose] public section

set_option maxRecDepth 16384

noncomputable section

namespace Cert.Arrays

open Cert.KernelIdeal Cert.KernelIdeal.Gen Cert.Body Cert.Block Idealize.ShloMosaic Idealize.ShloMosaic.TcCoe Idealize.SL.Sem
open Idealize.SL Idealize.SL.RA
open Idealize.ShloMosaic.Pipeline (Dat)

variable {F : FTy → Type} [FloatOps F]
variable (m : (ℓ : Loc nD τ sig) → Buf (Elt F) ℓ) (c : Dev nD)

/-- Row `i` of block `t` among the 4096 rows. -/
def row (t : Fin grid0.N) (i : Fin 128) : Fin 4096 :=
  ⟨128 * t.val + i.val, by have := lt_of_lt_of_eq t.isLt N_0; have := i.isLt; omega⟩

/-- Where each block starts, decided over the grid. -/
theorem at0 : ∀ t : Fin grid0.N, win0_0.index t 0 * win0_0.size 0 = 128 * t.val ∧ win0_0.index t 1 * win0_0.size 1 = 0 := by
  decide +kernel
theorem at1 : ∀ t : Fin grid0.N, win0_1.index t 0 * win0_1.size 0 = 128 * t.val ∧ win0_1.index t 1 * win0_1.size 1 = 0 := by
  decide +kernel
theorem at2 : ∀ t : Fin grid0.N, win0_2.index t 0 * win0_2.size 0 = 128 * t.val ∧ win0_2.index t 1 * win0_2.size 1 = 0 := by
  decide +kernel
theorem at3 : ∀ t : Fin grid0.N, win0_3.index t 0 * win0_3.size 0 = 0 ∧ win0_3.index t 1 * win0_3.size 1 = 0 := by
  decide +kernel
theorem at4 : ∀ t : Fin grid0.N, win0_4.index t 0 * win0_4.size 0 = 0 ∧ win0_4.index t 1 * win0_4.size 1 = 0 := by
  decide +kernel
theorem at5 : ∀ t : Fin grid0.N, win0_5.index t 0 * win0_5.size 0 = 0 ∧ win0_5.index t 1 * win0_5.size 1 = 0 := by
  decide +kernel
theorem at6 : ∀ t : Fin grid0.N, win0_6.index t 0 * win0_6.size 0 = 0 ∧ win0_6.index t 1 * win0_6.size 1 = 0 := by
  decide +kernel
theorem at7 : ∀ t : Fin grid0.N, win0_7.index t 0 * win0_7.size 0 = 0 ∧ win0_7.index t 1 * win0_7.size 1 = 0 := by
  decide +kernel
theorem at8 : ∀ t : Fin grid0.N, win0_8.index t 0 * win0_8.size 0 = 128 * t.val ∧ win0_8.index t 1 * win0_8.size 1 = 0
    ∧ win0_8.index t 2 * win0_8.size 2 = 0 := by
  decide +kernel
theorem bk_val : ∀ t : Fin grid0.N, (Ring.bk 32 t.val).val = t.val := by decide +kernel
theorem flush8 : ∀ t : Fin grid0.N, win0_8.flush t = true := by decide +kernel

/-- Two indices of a matrix with equal coordinates. -/
theorem idx2_ext {n k : Nat} {i j : (⟨2, ![n, k]⟩ : Shape).Idx} (h0 : (i 0).val = (j 0).val) (h1 : (i 1).val = (j 1).val) : i = j := by
  funext a; apply Fin.ext; fin_cases a
  · exact h0
  · exact h1

/-- The same for three axes. -/
theorem idx3_ext {n k l : Nat} {i j : (⟨3, ![n, k, l]⟩ : Shape).Idx} (h0 : (i 0).val = (j 0).val) (h1 : (i 1).val = (j 1).val)
    (h2 : (i 2).val = (j 2).val) : i = j := by
  funext a; apply Fin.ext; fin_cases a
  · exact h0
  · exact h1
  · exact h2

/-- The staged rows of tokens, actions and streets are the block's rows of the arguments. -/
theorem tokens (t : Fin cfg0.N) : (iblk m c 0 t : S128x50.Idx → BitVec 32) = fun y => m ((c : Thread nD τ).loc main_arg0) (ix2 (row t (y 0)) (y 1)) := by
  funext y
  show V m c main_arg0 ((win0_0.rect t).emb y) = _
  rw [V_main_arg0]
  refine congrArg (m ((c : Thread nD τ).loc main_arg0)) (idx2_ext ?_ ?_)
  · show win0_0.index t 0 * win0_0.size 0 + 1 * (y 0).val = 128 * t.val + (y 0).val
    have := (at0 t).1; omega
  · show win0_0.index t 1 * win0_0.size 1 + 1 * (y 1).val = (y 1).val
    have := (at0 t).2; omega

theorem actions (t : Fin cfg0.N) : (iblk m c 1 t : S128x50.Idx → BitVec 32) = fun y => m ((c : Thread nD τ).loc main_arg1) (ix2 (row t (y 0)) (y 1)) := by
  funext y
  show V m c main_arg1 ((win0_1.rect t).emb y) = _
  rw [V_main_arg1]
  refine congrArg (m ((c : Thread nD τ).loc main_arg1)) (idx2_ext ?_ ?_)
  · show win0_1.index t 0 * win0_1.size 0 + 1 * (y 0).val = 128 * t.val + (y 0).val
    have := (at1 t).1; omega
  · show win0_1.index t 1 * win0_1.size 1 + 1 * (y 1).val = (y 1).val
    have := (at1 t).2; omega

theorem streets (t : Fin cfg0.N) : (iblk m c 2 t : S128x50.Idx → BitVec 32) = fun y => m ((c : Thread nD τ).loc main_arg2) (ix2 (row t (y 0)) (y 1)) := by
  funext y
  show V m c main_arg2 ((win0_2.rect t).emb y) = _
  rw [V_main_arg2]
  refine congrArg (m ((c : Thread nD τ).loc main_arg2)) (idx2_ext ?_ ?_)
  · show win0_2.index t 0 * win0_2.size 0 + 1 * (y 0).val = 128 * t.val + (y 0).val
    have := (at2 t).1; omega
  · show win0_2.index t 1 * win0_2.size 1 + 1 * (y 1).val = (y 1).val
    have := (at2 t).2; omega

/-- The staged weights are the prepared arrays whole. -/
theorem weights (t : Fin cfg0.N) : (iblk m c 3 t : S32x256.Idx → F .f32) = V m c main_v7 := by
  funext y
  refine congrArg (V m c main_v7) (show (win0_3.rect t).emb y = y from idx2_ext ?_ ?_)
  · show win0_3.index t 0 * win0_3.size 0 + 1 * (y 0).val = (y 0).val
    have := (at3 t).1; omega
  · show win0_3.index t 1 * win0_3.size 1 + 1 * (y 1).val = (y 1).val
    have := (at3 t).2; omega

theorem biases (t : Fin cfg0.N) : (iblk m c 4 t : S1x256.Idx → F .f32) = V m c main_v12 := by
  funext y
  refine congrArg (V m c main_v12) (show (win0_4.rect t).emb y = y from idx2_ext ?_ ?_)
  · show win0_4.index t 0 * win0_4.size 0 + 1 * (y 0).val = (y 0).val
    have := (at4 t).1; omega
  · show win0_4.index t 1 * win0_4.size 1 + 1 * (y 1).val = (y 1).val
    have := (at4 t).2; omega

theorem gains (t : Fin cfg0.N) : (iblk m c 5 t : S1x128.Idx → F .f32) = V m c main_v20 := by
  funext y
  refine congrArg (V m c main_v20) (show (win0_5.rect t).emb y = y from idx2_ext ?_ ?_)
  · show win0_5.index t 0 * win0_5.size 0 + 1 * (y 0).val = (y 0).val
    have := (at5 t).1; omega
  · show win0_5.index t 1 * win0_5.size 1 + 1 * (y 1).val = (y 1).val
    have := (at5 t).2; omega

theorem shifts (t : Fin cfg0.N) : (iblk m c 6 t : S1x128.Idx → F .f32) = V m c main_v21 := by
  funext y
  refine congrArg (V m c main_v21) (show (win0_6.rect t).emb y = y from idx2_ext ?_ ?_)
  · show win0_6.index t 0 * win0_6.size 0 + 1 * (y 0).val = (y 0).val
    have := (at6 t).1; omega
  · show win0_6.index t 1 * win0_6.size 1 + 1 * (y 1).val = (y 1).val
    have := (at6 t).2; omega

theorem packed (t : Fin cfg0.N) : (iblk m c 7 t : S40x256.Idx → F .f32) = V m c main_v19 := by
  funext y
  refine congrArg (V m c main_v19) (show (win0_7.rect t).emb y = y from idx2_ext ?_ ?_)
  · show win0_7.index t 0 * win0_7.size 0 + 1 * (y 0).val = (y 0).val
    have := (at7 t).1; omega
  · show win0_7.index t 1 * win0_7.size 1 + 1 * (y 1).val = (y 1).val
    have := (at7 t).2; omega

/-- The features that landed for point `t` are the block's rows of the features. -/
theorem features (t : Fin cfg0.N) : View.read (Elt F) (srcB0_0 (Ring.bk 32 t.val)).view (V m c main_arg3)
    = fun y => m ((c : Thread nD τ).loc main_arg3) (ix3 (row t (y 0)) (y 1) (y 2)) := by
  funext y
  rw [V_main_arg3]
  refine congrArg (m ((c : Thread nD τ).loc main_arg3)) (show (Rect.unit (s := S4096x50x32) ![128 * (Ring.bk 32 t.val).val, 0, 0] S128x50x32.size (inb_src0_0 (Ring.bk 32 t.val))).emb y = _ from idx3_ext ?_ ?_ ?_)
  · show 128 * (Ring.bk 32 t.val).val + 1 * (y 0).val = 128 * t.val + (y 0).val
    rw [bk_val]; omega
  · show 0 + 1 * (y 1).val = (y 1).val
    omega
  · show 0 + 1 * (y 2).val = (y 2).val
    omega

/-- The block of point `t` from the arguments and the prepared arrays. -/
def blockAt (t : Fin grid0.N) : S128x50x128.Idx → F .f32 :=
  block (fun y => m ((c : Thread nD τ).loc main_arg3) (ix3 (row t (y 0)) (y 1) (y 2)))
    (fun y => m ((c : Thread nD τ).loc main_arg0) (ix2 (row t (y 0)) (y 1)))
    (fun y => m ((c : Thread nD τ).loc main_arg1) (ix2 (row t (y 0)) (y 1)))
    (fun y => m ((c : Thread nD τ).loc main_arg2) (ix2 (row t (y 0)) (y 1)))
    (V m c main_v7) (V m c main_v12) (V m c main_v20) (V m c main_v21) (V m c main_v19)

/-- Equal operands give equal blocks. -/
theorem block_congr {X X' : S128x50x32.Idx → F .f32} {a0 b0 a1 b1 a2 b2 : S128x50.Idx → BitVec 32} {a3 b3 : S32x256.Idx → F .f32}
    {a4 b4 : S1x256.Idx → F .f32} {a5 b5 a6 b6 : S1x128.Idx → F .f32} {a7 b7 : S40x256.Idx → F .f32} (h : X = X') (h0 : a0 = b0)
    (h1 : a1 = b1) (h2 : a2 = b2) (h3 : a3 = b3) (h4 : a4 = b4) (h5 : a5 = b5) (h6 : a6 = b6) (h7 : a7 = b7) :
    block X a0 a1 a2 a3 a4 a5 a6 a7 = block X' b0 b1 b2 b3 b4 b5 b6 b7 := by
  subst h h0 h1 h2 h3 h4 h5 h6 h7; rfl

/-- The blocks as staged give the same. -/
theorem staged (t : Fin grid0.N) : block (View.read (Elt F) (srcB0_0 (Ring.bk 32 t.val)).view (V m c main_arg3)) (iblk m c 0 t) (iblk m c 1 t)
    (iblk m c 2 t) (iblk m c 3 t) (iblk m c 4 t) (iblk m c 5 t) (iblk m c 6 t) (iblk m c 7 t) = blockAt m c t :=
  block_congr (features m c t) (tokens m c t) (actions m c t) (streets m c t) (weights m c t) (biases m c t) (gains m c t) (shifts m c t)
    (packed m c t)

/-- What point `t` writes back is that block, whichever of the three cases it runs in. -/
theorem flushed (t : Fin cfg0.N) : (dats m 0 c).flushed 8 t = blockAt m c t := by
  have h : ∀ o : S128x50x128.Idx → F .f32, (cfg0.win 8).cut (grid0.coords t) o = o := fun o => rfl
  by_cases h0 : t.val % 32 = 0
  · by_cases h1 : t.val < 31
    · rw [Value.flushed8_A m c t h0 h1, out_A]; exact (h _).trans (staged m c t)
    · have : t.val < 32 := lt_of_lt_of_eq t.isLt N_0
      omega
  · by_cases h1 : t.val < 31
    · rw [Value.flushed8_B m c t h0 h1, out_B]; exact (h _).trans (staged m c t)
    · rw [Value.flushed8_C m c t h0 h1, out_C]; exact (h _).trans (staged m c t)

/-- The array after the run at row `i` of block `t`: that block's row. -/
theorem final (t : Fin grid0.N) (i : Fin 128) (l : Fin 50) (d : Fin 128) :
    (dats m 0 c).arrAt 8 cfg0.N (ix3 (row t i) l d) = blockAt m c t (ix3 i l d) := by
  rw [← flushed, ← Value.blocks8 m c t (flush8 t)]
  show _ = (dats m 0 c).arrAt 8 cfg0.N ((win0_8.rect t).emb (ix3 i l d))
  refine congrArg ((dats m 0 c).arrAt 8 cfg0.N) (idx3_ext ?_ ?_ ?_)
  · show 128 * t.val + i.val = win0_8.index t 0 * win0_8.size 0 + 1 * i.val
    have := (at8 t).1; omega
  · show l.val = win0_8.index t 1 * win0_8.size 1 + 1 * l.val
    have := (at8 t).2.1; omega
  · show d.val = win0_8.index t 2 * win0_8.size 2 + 1 * d.val
    have := (at8 t).2.2; omega

end Cert.Arrays

end
-- ==== Proof.Prepared.lean ====
/- The arrays the launch prepares for the kernel, read at an index. -/
module

public import proofs.«01_k».proof.Proof.Arrays
public import Idealize.ShloMosaic.Lib.Pointwise
public import Idealize.ShloMosaic.Lib.StableHlo.ReadAt
public import Idealize.ShloMosaic.Lib.Routing.OpsPair

@[expose] public section

set_option maxRecDepth 16384

noncomputable section

namespace Cert.Prepared

open Cert.KernelIdeal Cert.KernelIdeal.Gen Cert.Arrays Idealize.ShloMosaic Idealize.ShloMosaic.TcCoe Idealize.SL.Sem
open Idealize.SL Idealize.SL.RA

variable (m : (ℓ : Loc nD τ sig) → Buf (Elt Ideal) ℓ) (c : Dev nD)

/-- Column `d` of the left half and of the right half of 256 columns. -/
def left (d : Fin 128) : Fin 256 := ⟨d.val, by have := d.isLt; omega⟩
def right (d : Fin 128) : Fin 256 := ⟨128 + d.val, by have := d.isLt; omega⟩

/-- The arguments as arrays of extended reals. -/
def W : S32x128.Idx → EReal := m ((c : Thread nD τ).loc main_arg7)
def B : S128.Idx → EReal := m ((c : Thread nD τ).loc main_arg8)
def Act : S2x128.Idx → EReal := m ((c : Thread nD τ).loc main_arg4)
def Str : S4x128.Idx → EReal := m ((c : Thread nD τ).loc main_arg5)
def Tok : S32x128.Idx → EReal := m ((c : Thread nD τ).loc main_arg6)

/-- The augmented weights: the weights on the left, each row's mean on the right. -/
theorem weights_left (k : Fin 32) (d : Fin 128) : (V m c main_v7 (ix2 k (left d)) : EReal) = W m c (ix2 k d) := by
  unfold V left
  after_reads_at
  rfl

theorem weights_right (k : Fin 32) (d : Fin 128) :
    (V m c main_v7 (ix2 k (right d)) : EReal) = Ideal.div (∑ j, W m c (ix2 k j)) (Ideal.ofBits .f32 0x43000000#32) := by
  unfold V right
  after_reads_at
  rfl

/-- The augmented biases: the biases on the left, their mean on the right. -/
theorem biases_left (d : Fin 128) : (V m c main_v12 (ix2 0 (left d)) : EReal) = B m c (ix1 d) := by
  unfold V left
  after_reads_at
  rfl

theorem biases_right (d : Fin 128) :
    (V m c main_v12 (ix2 0 (right d)) : EReal) = Ideal.div (∑ j, B m c (ix1 j)) (Ideal.ofBits .f32 0x43000000#32) := by
  unfold V right
  after_reads_at
  rfl

/-- The gains and shifts as rows. -/
theorem gains_at (d : Fin 128) : V m c main_v20 (ix2 0 d) = m ((c : Thread nD τ).loc main_arg9) (ix1 d) := by
  unfold V
  after_reads_at

theorem shifts_at (d : Fin 128) : V m c main_v21 (ix2 0 d) = m ((c : Thread nD τ).loc main_arg10) (ix1 d) := by
  unfold V
  after_reads_at

/-- The row of a table's left half, by its number in the packed table. -/
theorem packed_left (k : Fin 40) (d : Fin 128) : (V m c main_v19 (ix2 k (left d)) : EReal) =
    if h : k.val < 2 then Act m c (ix2 ⟨k.val, h⟩ d) else if h : k.val - 2 < 4 then Str m c (ix2 ⟨k.val - 2, h⟩ d)
    else if h : k.val - 2 - 4 < 32 then Tok m c (ix2 ⟨k.val - 2 - 4, h⟩ d) else 0 := by
  unfold V left
  after_reads_at
  after_reads_at
  rfl

/-- Writing one value at several places leaves it if one of them is met. -/
theorem foldl_met {α β : Type} (p : β → Prop) [DecidablePred p] (v : α) (L : List β) (x : α) (h : (∃ n ∈ L, p n) ∨ x = v) :
    L.foldl (fun a n => if p n then v else a) x = v := by
  induction L generalizing x with
  | nil => simpa using h
  | cons n L ih =>
    rw [List.foldl_cons]
    refine ih _ ?_
    by_cases hn : p n
    · exact .inr (if_pos hn)
    · rw [if_neg hn]
      rcases h with ⟨k, hk, hp⟩ | h
      · rcases List.mem_cons.1 hk with rfl | hk
        · exact absurd hp hn
        · exact .inl ⟨k, hk, hp⟩
      · exact .inr h

/-- Where none is met the start stays. -/
theorem foldl_unmet {α β : Type} (p : β → Prop) [DecidablePred p] (v : α) (L : List β) (x : α) (h : ∀ n ∈ L, ¬p n) :
    L.foldl (fun a n => if p n then v else a) x = x := by
  induction L with
  | nil => rfl
  | cons n L ih =>
    rw [List.foldl_cons, if_neg (h n (List.mem_cons_self ..))]
    exact ih fun k hk => h k (List.mem_cons_of_mem _ hk)

/-- Where an update of the first two rows lands. -/
theorem lands (i : Fin 2) (j : Fin 128) (idx : IVec S1 32) (hidx : ∀ y, idx y = 0#32) (k : Fin 40) (d : Fin 128) :
    scatter_S40x128_S1_S2x128_01_n_0_0.resultIdx? (ix2 i j) idx = some (ix2 k d) ↔ i.val = k.val ∧ j.val = d.val := by
  rw [Routing.resultIdx?_eq_some]
  have h0 : scatter_S40x128_S1_S2x128_01_n_0_0.start (ix2 i j) idx 0 = 0 := by
    unfold ScatterDims.start
    rw [dif_pos (by decide), hidx]; rfl
  have h1 : scatter_S40x128_S1_S2x128_01_n_0_0.start (ix2 i j) idx 1 = 0 := by
    unfold ScatterDims.start
    rw [dif_neg (by decide)]
  have w0 : scatter_S40x128_S1_S2x128_01_n_0_0.window (ix2 i j) 0 = i.val := by
    rfl
  have w1 : scatter_S40x128_S1_S2x128_01_n_0_0.window (ix2 i j) 1 = j.val := by
    rfl
  constructor
  · intro h
    have a := h 0; have b := h 1
    rw [h0, w0] at a; rw [h1, w1] at b
    have a' : (0 : Int) + (i.val : Int) = (k.val : Int) := a
    have b' : (0 : Int) + (j.val : Int) = (d.val : Int) := b
    omega
  · rintro ⟨a, b⟩ e
    fin_cases e
    · show scatter_S40x128_S1_S2x128_01_n_0_0.start (ix2 i j) idx 0 + (scatter_S40x128_S1_S2x128_01_n_0_0.window (ix2 i j) 0 : Int) = (k.val : Int)
      rw [h0, w0, a]; simp
    · show scatter_S40x128_S1_S2x128_01_n_0_0.start (ix2 i j) idx 1 + (scatter_S40x128_S1_S2x128_01_n_0_0.window (ix2 i j) 1 : Int) = (d.val : Int)
      rw [h1, w1, b]; simp

/-- The right half of the packed table: one in the first two rows, zero below. -/
theorem packed_right (k : Fin 40) (d : Fin 128) : (V m c main_v19 (ix2 k (right d)) : EReal) = (if k.val < 2 then 1 else 0 : EReal) := by
  unfold V right
  after_reads_at
  rw [Routing.scatter_at]
  pointwise
  by_cases h : k.val < 2
  · rw [if_pos h]
    refine foldl_met _ _ _ _ (.inl ⟨S2x128.rowMajor (ix2 ⟨k.val, h⟩ d), List.mem_finRange _, ?_⟩)
    rw [Equiv.symm_apply_apply]
    exact (lands _ _ _ (fun _ => rfl) _ _).2 ⟨rfl, rfl⟩
  · rw [if_neg h]
    refine foldl_unmet _ _ _ _ fun n _ hn => h ?_
    rw [eq_ix2 (S2x128.rowMajor.symm n)] at hn
    have := (lands _ _ _ (fun _ => rfl) _ _).1 hn
    have h2 : ((S2x128.rowMajor.symm n) 0).val < 2 := ((S2x128.rowMajor.symm n) 0).isLt
    omega

end Cert.Prepared

end
-- ==== Proof.LayerNorm.lean ====
/- The layer norm of a linear layer over the extended reals: dividing by the deviation, with the mean taken over the layer's
   outputs, is multiplying by the reciprocal deviation, with the mean folded into the weights. -/
module

public import Idealize.ShloMosaic.Lib.Pointwise
import Mathlib.Tactic.NormNum
import Mathlib.Tactic.Ring
import Mathlib.Tactic.Positivity

@[expose] public section

set_option maxRecDepth 16384

noncomputable section

namespace Cert.LayerNorm

open Idealize.ShloMosaic

/-- An extended real that is a real number. -/
def Real' (a : EReal) : Prop := ∃ r : ℝ, a = (r : EReal)

/-- 128 and the small constant under the root, as the programs write them. -/
abbrev c128 : EReal := Ideal.ofBits .f32 0x43000000#32
abbrev ceps : EReal := Ideal.ofBits .f32 0x3727C5AC#32

theorem c128_eq : c128 = ((128 : ℝ) : EReal) := by
  simp [c128, Ideal.ofBits, Ideal.ieee, -EReal.coe_mul]; norm_num

theorem ceps_eq : ∃ e : ℝ, 0 < e ∧ ceps = (e : EReal) := by
  refine ⟨10995116 * 2 ^ (-40 : Int), by positivity, ?_⟩
  simp [ceps, Ideal.ofBits, Ideal.ieee, -EReal.coe_mul]

/-- A real sum has real summands. -/
theorem real_of_add {a b : EReal} (h : Real' (a + b)) : Real' a ∧ Real' b := by
  obtain ⟨r, h⟩ := h
  induction a using EReal.rec <;> induction b using EReal.rec <;> simp_all [Real']

theorem real_of_sub {a b : EReal} (h : Real' (a - b)) : Real' a := by
  rw [sub_eq_add_neg] at h; exact (real_of_add h).1

theorem real_of_sum {ι : Type} (s : Finset ι) (f : ι → EReal) (h : Real' (∑ i ∈ s, f i)) : ∀ i ∈ s, Real' (f i) := by
  classical
  induction s using Finset.induction_on with
  | empty => intro i hi; simp at hi
  | insert a s ha ih =>
    rw [Finset.sum_insert ha] at h
    intro i hi
    rcases Finset.mem_insert.1 hi with rfl | hi
    · exact (real_of_add h).1
    · exact ih (real_of_add h).2 i hi

/-- The square of what is no real number is infinity; any square is nonnegative. -/
theorem sq_top {a : EReal} (h : ¬Real' a) : a * a = ⊤ := by
  induction a using EReal.rec with
  | bot => rfl
  | coe r => exact absurd ⟨r, rfl⟩ h
  | top => rfl

theorem sq_nonneg' (a : EReal) : 0 ≤ a * a := by
  induction a using EReal.rec with
  | bot => exact le_top
  | coe r => rw [← EReal.coe_mul]; exact_mod_cast mul_self_nonneg r
  | top => exact le_top

/-- A sum of squares one of which is infinite is infinite. -/
theorem sum_sq_top (d : Fin 128 → EReal) (j : Fin 128) (h : ¬Real' (d j)) : ∑ i, d i * d i = ⊤ := by
  refine top_le_iff.1 ?_
  rw [← sq_top h]
  exact Finset.single_le_sum (f := fun i => d i * d i) (fun i _ => sq_nonneg' _) (Finset.mem_univ j)

theorem div_128 (a : EReal) : Ideal.div a c128 = a * ((1 / 128 : ℝ) : EReal) := by
  rw [c128_eq, Ideal.div_coe (by norm_num)]

theorem div_top : Ideal.div ⊤ c128 = ⊤ := by
  rw [div_128, EReal.top_mul_coe_of_pos (by norm_num)]

/-- A sum of real numbers is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An infinite factor of a real product meets zero. -/
theorem zero_of_top {a : EReal} {r : ℝ} (h : ⊤ * a = (r : EReal)) : a = 0 := by
  rcases lt_trichotomy a 0 with ha | ha | ha
  · rw [EReal.top_mul_of_neg ha] at h; exact absurd h (EReal.coe_ne_bot r).symm
  · exact ha
  · rw [EReal.top_mul_of_pos ha] at h; exact absurd h (EReal.coe_ne_top r).symm

theorem zero_of_bot {a : EReal} {r : ℝ} (h : ⊥ * a = (r : EReal)) : a = 0 := by
  rcases lt_trichotomy a 0 with ha | ha | ha
  · rw [EReal.bot_mul_of_neg ha] at h; exact absurd h (EReal.coe_ne_top r).symm
  · exact ha
  · rw [EReal.bot_mul_of_pos ha] at h; exact absurd h (EReal.coe_ne_bot r).symm

/-- A nonzero real factor of a real product meets a real number. -/
theorem real_of_mul {q r : ℝ} {a : EReal} (hq : q ≠ 0) (h : (q : EReal) * a = (r : EReal)) : Real' a := by
  induction a using EReal.rec with
  | coe v => exact ⟨v, rfl⟩
  | top =>
    rcases lt_or_gt_of_ne hq with hq | hq
    · rw [EReal.coe_mul_top_of_neg hq] at h; exact absurd h (EReal.coe_ne_bot r).symm
    · rw [EReal.coe_mul_top_of_pos hq] at h; exact absurd h (EReal.coe_ne_top r).symm
  | bot =>
    rcases lt_or_gt_of_ne hq with hq | hq
    · rw [EReal.coe_mul_bot_of_neg hq] at h; exact absurd h (EReal.coe_ne_top r).symm
    · rw [EReal.coe_mul_bot_of_pos hq] at h; exact absurd h (EReal.coe_ne_bot r).symm

/-- Multiplication by one factor distributes over the mean where every product is real. -/
theorem mul_mean (x : EReal) (w : Fin 128 → EReal) (t : Fin 128 → ℝ) (h : ∀ j, x * w j = (t j : EReal)) :
    x * Ideal.div (∑ j, w j) c128 = (((∑ j, t j) / 128 : ℝ) : EReal) := by
  have zero : (∀ j, w j = 0) → x * Ideal.div (∑ j, w j) c128 = (((∑ j, t j) / 128 : ℝ) : EReal) := fun hw => by
    have ht : ∀ j, t j = 0 := fun j => by
      have := h j
      rw [hw j, mul_zero] at this
      exact_mod_cast this.symm
    rw [div_128]
    simp [hw, ht]
  induction x using EReal.rec with
  | top => exact zero fun j => zero_of_top (h j)
  | bot => exact zero fun j => zero_of_bot (h j)
  | coe q =>
    by_cases hq : q = 0
    · subst hq
      have ht : ∀ j, t j = 0 := fun j => by
        have := h j
        rw [EReal.coe_zero, zero_mul] at this
        exact_mod_cast this.symm
      simp [ht]
    · choose v hv using fun j => real_of_mul hq (h j)
      have ht : ∀ j, t j = q * v j := fun j => by
        have := h j
        rw [hv j, ← EReal.coe_mul] at this
        exact_mod_cast this.symm
      simp only [hv, ht]
      rw [div_128, coe_sum, ← EReal.coe_mul, ← EReal.coe_mul, ← Finset.mul_sum]
      congr 1
      ring

variable (x : Fin 32 → EReal) (w : Fin 32 → Fin 128 → EReal) (b : Fin 128 → EReal)

/-- The linear layer's output `j`. -/
def lin (j : Fin 128) : EReal := ∑ k, x k * w k j + b j

/-- The mean over the outputs, and the mean folded into weights and biases. -/
def mean : EReal := Ideal.div (∑ j, lin x w b j) c128
def folded : EReal := ∑ k, x k * Ideal.div (∑ j, w k j) c128 + Ideal.div (∑ j, b j) c128

/-- The variance about `m`, with the small constant added. -/
def spread (m : EReal) : EReal := Ideal.div (∑ j, (lin x w b j - m) * (lin x w b j - m)) c128 + ceps

/-- Where every output is real the two means agree, and are real. -/
theorem mean_eq (h : ∀ j, Real' (lin x w b j)) : folded x w b = mean x w b ∧ Real' (mean x w b) := by
  have hk : ∀ k j, Real' (x k * w k j) := fun k j => real_of_sum _ _ (real_of_add (h j)).1 k (Finset.mem_univ k)
  have hb : ∀ j, Real' (b j) := fun j => (real_of_add (h j)).2
  choose t ht using hk
  choose c hc using hb
  have hf : folded x w b = ((∑ k, (∑ j, t k j) / 128 + (∑ j, c j) / 128 : ℝ) : EReal) := by
    unfold folded
    rw [Finset.sum_congr rfl fun k _ => mul_mean (x k) (w k) (t k) (ht k), coe_sum, Finset.sum_congr rfl fun j _ => hc j, coe_sum, div_128,
      ← EReal.coe_mul, ← EReal.coe_add]
    congr 1
    ring
  have hl : ∀ j, lin x w b j = ((∑ k, t k j + c j : ℝ) : EReal) := fun j => by
    unfold lin
    rw [Finset.sum_congr rfl fun k _ => ht k j, coe_sum, hc, ← EReal.coe_add]
  have hm : mean x w b = ((∑ k, (∑ j, t k j) / 128 + (∑ j, c j) / 128 : ℝ) : EReal) := by
    unfold mean
    rw [Finset.sum_congr rfl fun j _ => hl j, coe_sum, div_128, ← EReal.coe_mul, Finset.sum_add_distrib, Finset.sum_comm]
    congr 1
    rw [← Finset.sum_div]
    ring
  exact ⟨hf.trans hm.symm, _, hm⟩

/-- The two normalisations agree at every output. -/
theorem norm_eq (j : Fin 128) :
    (lin x w b j - folded x w b) * Ideal.rsqrt (spread x w b (folded x w b))
      = Ideal.div (lin x w b j - mean x w b) (Ideal.sqrt (spread x w b (mean x w b))) := by
  obtain ⟨e, he, hce⟩ := ceps_eq
  by_cases h : ∀ j, Real' (lin x w b j)
  · obtain ⟨hm, r, hr⟩ := mean_eq x w b h
    choose v hv using h
    have hs : spread x w b (mean x w b) = (((∑ j, (v j - r) * (v j - r)) / 128 + e : ℝ) : EReal) := by
      unfold spread
      rw [hr, hce, Finset.sum_congr rfl fun j _ => show _ = (((v j - r) * (v j - r) : ℝ) : EReal) by
        rw [hv j, ← EReal.coe_sub, ← EReal.coe_mul], coe_sum, div_128, ← EReal.coe_mul, ← EReal.coe_add]
      congr 1
      ring
    have hp : 0 < (∑ j, (v j - r) * (v j - r)) / 128 + e := by
      have : 0 ≤ ∑ j, (v j - r) * (v j - r) := Finset.sum_nonneg fun j _ => mul_self_nonneg _
      positivity
    rw [hm, hs]
    generalize (∑ j, (v j - r) * (v j - r)) / 128 + e = s at hp
    show _ * (if s < 0 then ⊥ else if s = 0 then ⊤ else (((Real.sqrt s)⁻¹ : ℝ) : EReal))
      = Ideal.div _ (if s < 0 then ⊥ else (Real.sqrt s : EReal))
    rw [if_neg (not_lt.2 hp.le), if_neg hp.ne', if_neg (not_lt.2 hp.le), Ideal.div_coe (Real.sqrt_pos.2 hp).ne', one_div]
  · obtain ⟨i, hi⟩ := not_forall.1 h
    have hs : ∀ m, spread x w b m = ⊤ := fun m => by
      unfold spread
      rw [sum_sq_top (fun j => lin x w b j - m) i fun hr => hi (real_of_sub hr), div_top, hce]
      rfl
    rw [hs, hs]
    show _ * (0 : EReal) = Ideal.div _ ⊤
    rw [mul_zero, Ideal.div, if_neg EReal.top_ne_zero, EReal.inv_top, mul_zero]

end Cert.LayerNorm

end
-- ==== Proof.Words.lean ====
/- Clipped words, the table rows they name, and the sum of the rows that a column of comparisons picks. -/
module

public import Idealize.ShloMosaic.Lib.Pointwise

@[expose] public section

set_option maxRecDepth 16384

noncomputable section

namespace Cert.Words

open Idealize.ShloMosaic

/-- The indicator of a token in the betting range: `10 ≤ v < 42`. -/
def bets (v : BitVec 32) : BitVec 1 := IntOp.andi (IntOp.cmpi .sge v 10#32) (IntOp.cmpi .slt v 42#32)

/-- The signed word `v` clipped to `0 … h`, as a row number. -/
def clipped (h : Nat) (v : BitVec 32) : Fin (h + 1) := ⟨min v.toInt.toNat h, by omega⟩

theorem toInt_small {k : Nat} (hk : k < 2 ^ 31) : (BitVec.ofNat 32 k).toInt = k := by
  rw [BitVec.toInt_eq_toNat_of_lt (by rw [BitVec.toNat_ofNat]; omega), BitVec.toNat_ofNat]
  omega

/-- Clipping a word gives the word of that row number. -/
theorem clip_word {h : Nat} (hh : h < 2 ^ 31) (v : BitVec 32) :
    IntOp.minsi (BitVec.ofNat 32 h) (IntOp.maxsi (BitVec.ofNat 32 0) v) = BitVec.ofNat 32 (clipped h v).val := by
  have h0 : (BitVec.ofNat 32 0).toInt = 0 := rfl
  have hi := toInt_small hh
  apply BitVec.eq_of_toInt_eq
  have hc : (clipped h v).val ≤ h := by show min _ _ ≤ _; omega
  rw [toInt_small (show (clipped h v).val < 2 ^ 31 by omega)]
  show _ = ((min v.toInt.toNat h : Nat) : Int)
  unfold IntOp.minsi IntOp.maxsi
  simp only [BitVec.slt, h0]
  by_cases a : v.toInt < 0
  · simp only [a, decide_true, if_true, h0, hi]
    by_cases b : (h : Int) < 0
    · omega
    · simp only [b, decide_false, Bool.false_eq_true, if_false, h0]; omega
  · simp only [a, decide_false, Bool.false_eq_true, if_false, hi]
    by_cases b : (h : Int) < v.toInt
    · simp only [b, decide_true, if_true, hi]; omega
    · simp only [b, decide_false, Bool.false_eq_true, if_false]; omega

/-- A row number is not negative, so it is not wrapped around. -/
theorem not_wrapped {k : Nat} (hk : k < 2 ^ 31) (x y : BitVec 32) :
    Scalar.select (IntOp.cmpi .slt (BitVec.ofNat 32 k) 0#32) x y = y := by
  have : IntOp.cmpi .slt (BitVec.ofNat 32 k) 0#32 = 0#1 := by
    simp only [IntOp.cmpi, BitVec.slt, toInt_small hk]
    rw [show decide ((k : Int) < (0#32).toInt) = false from decide_eq_false (by show ¬((k : Int) < 0); omega)]; rfl
  rw [this]; rfl

/-- A row number up to `h` lies in the range a table of `h + 1` rows admits. -/
theorem in_range {k h : Nat} (hk : k ≤ h) (hh : h < 2 ^ 31) :
    IntOp.andi (IntOp.cmpi .sge (BitVec.ofNat 32 k) 0#32) (IntOp.cmpi .sle (BitVec.ofNat 32 k) (BitVec.ofNat 32 h)) = 1#1 := by
  simp only [IntOp.cmpi, BitVec.sle, toInt_small hh, toInt_small (show k < 2 ^ 31 by omega)]
  rw [show decide ((0#32).toInt ≤ (k : Int)) = true from decide_eq_true (by show (0 : Int) ≤ k; omega),
    show decide ((k : Int) ≤ (h : Int)) = true from decide_eq_true (by omega)]
  rfl

/-- Two small words compare as their numbers do. -/
theorem eq_word {x k : Nat} (hx : x < 2 ^ 32) (hk : k < 2 ^ 32) :
    IntOp.cmpi .eq (BitVec.ofNat 32 x) (BitVec.ofNat 32 k) = BitVec.ofBool (decide (x = k)) := by
  simp only [IntOp.cmpi]
  congr 1
  rw [Bool.eq_iff_iff, beq_iff_eq, decide_eq_true_iff]
  constructor
  · intro h
    have := congrArg BitVec.toNat h
    rwa [BitVec.toNat_ofNat, BitVec.toNat_ofNat, Nat.mod_eq_of_lt hx, Nat.mod_eq_of_lt hk] at this
  · rintro rfl; rfl

theorem add_word (x k : Nat) : IntOp.addi (BitVec.ofNat 32 x) (BitVec.ofNat 32 k) = BitVec.ofNat 32 (x + k) := by
  simp only [IntOp.addi, BitVec.ofNat_add]

/-- The sum of the members at three different places. -/
theorem sum_three (P : Fin 40 → EReal) (a s t : Fin 40) (h1 : a ≠ s) (h2 : a ≠ t) (h3 : s ≠ t) :
    (∑ x, if x = a ∨ x = s ∨ x = t then P x else 0) = P a + P s + P t := by
  rw [← Finset.sum_filter, show (Finset.univ.filter fun x : Fin 40 => x = a ∨ x = s ∨ x = t) = {a, s, t} by ext x; simp,
    Finset.sum_insert (by simp [h1, h2]), Finset.sum_insert (by simp [h3]), Finset.sum_singleton, add_assoc]

theorem select_ofBool (p : Bool) (x y : EReal) : Scalar.select (BitVec.ofBool p) x y = if p then x else y := by
  cases p <;> rfl

theorem ori_ofBool (p q : Bool) : IntOp.ori (BitVec.ofBool p) (BitVec.ofBool q) = BitVec.ofBool (p || q) := by
  cases p <;> cases q <;> rfl

/-- The packed rows picked by comparing the row numbers with an action's, a street's and a token's row, or with −1 outside the
    betting range. -/
theorem picked (m : BitVec 1) (a : Fin 2) (s : Fin 4) (t : Fin 32) (P : Fin 40 → EReal) :
    (∑ x : Fin 40, Scalar.select
      (IntOp.ori
        (IntOp.ori (IntOp.cmpi .eq (BitVec.ofNat 32 x.val) (Scalar.select m (BitVec.ofNat 32 a.val) 4294967295#32))
          (IntOp.cmpi .eq (BitVec.ofNat 32 x.val) (Scalar.select m (IntOp.addi (BitVec.ofNat 32 s.val) 2#32) 4294967295#32)))
        (IntOp.cmpi .eq (BitVec.ofNat 32 x.val) (Scalar.select m (IntOp.addi (BitVec.ofNat 32 t.val) 6#32) 4294967295#32)))
      (P x) 0)
      = if m = 1#1 then P ⟨a.val, by omega⟩ + P ⟨s.val + 2, by omega⟩ + P ⟨t.val + 6, by omega⟩ else 0 := by
  have ha := a.isLt; have hs := s.isLt; have ht := t.isLt
  rw [add_word, add_word]
  by_cases hm : m = 1#1
  · subst hm
    rw [if_pos rfl, ← sum_three P _ _ _ (by simp only [ne_eq, Fin.mk.injEq]; omega) (by simp only [ne_eq, Fin.mk.injEq]; omega)
      (by simp only [ne_eq, Fin.mk.injEq]; omega)]
    refine Finset.sum_congr rfl fun x _ => ?_
    have hx := x.isLt
    show Scalar.select (IntOp.ori (IntOp.ori (IntOp.cmpi .eq (BitVec.ofNat 32 x.val) (BitVec.ofNat 32 a.val))
      (IntOp.cmpi .eq (BitVec.ofNat 32 x.val) (BitVec.ofNat 32 (s.val + 2)))) (IntOp.cmpi .eq (BitVec.ofNat 32 x.val) (BitVec.ofNat 32 (t.val + 6)))) (P x) 0 = _
    rw [eq_word (by omega) (by omega), eq_word (by omega) (by omega), eq_word (by omega) (by omega), ori_ofBool, ori_ofBool, select_ofBool]
    refine if_congr ?_ rfl rfl
    simp only [Bool.or_eq_true, decide_eq_true_iff, Fin.ext_iff, or_assoc]
  · rw [if_neg hm]
    have h0 : m = 0#1 := by revert hm; revert m; decide
    subst h0
    refine Finset.sum_eq_zero fun x _ => ?_
    have hx := x.isLt
    show Scalar.select (IntOp.ori (IntOp.ori (IntOp.cmpi .eq (BitVec.ofNat 32 x.val) (BitVec.ofNat 32 4294967295))
      (IntOp.cmpi .eq (BitVec.ofNat 32 x.val) (BitVec.ofNat 32 4294967295))) (IntOp.cmpi .eq (BitVec.ofNat 32 x.val) (BitVec.ofNat 32 4294967295))) (P x) 0 = _
    rw [eq_word (by omega) (by omega), decide_eq_false (by omega)]
    rfl

end Cert.Words

end
-- ==== Proof.Formula.lean ====
/- The value both programs compute at one position. -/
module

public import proofs.«01_k».proof.Proof.LayerNorm
public import proofs.«01_k».proof.Proof.Words

@[expose] public section

noncomputable section

namespace Cert.Formula

open Cert.Words Cert.LayerNorm Idealize.ShloMosaic

/-- The arguments every position shares: the three tables, the linear layer, the norm's scale and shift. -/
structure Params where
  act : Fin 2 → Fin 128 → EReal
  str : Fin 4 → Fin 128 → EReal
  tok : Fin 32 → Fin 128 → EReal
  w : Fin 32 → Fin 128 → EReal
  b : Fin 128 → EReal
  scale : Fin 128 → EReal
  shift : Fin 128 → EReal

/-- Feature `d` at a position with token `t`, action `a`, street `s` and context `x`: inside the betting range the sum of the
    three tables' rows and of the context's linear layer, normalised, scaled, shifted and cut off below zero; outside it zero. -/
def position (P : Params) (t a s : BitVec 32) (x : Fin 32 → EReal) (d : Fin 128) : EReal :=
  if bets t = 1#1 then
    P.act (clipped 1 a) d + P.str (clipped 3 s) d + P.tok (clipped 31 (IntOp.subi t 10#32)) d
      + max (Ideal.div (lin x P.w P.b d - mean x P.w P.b) (Ideal.sqrt (spread x P.w P.b (mean x P.w P.b))) * P.scale d + P.shift d) 0
  else 0

end Cert.Formula

end
-- ==== Proof.Position.lean ====
/- What the kernel's block holds at one position. -/
module

public import proofs.«01_k».proof.Proof.Prepared
public import proofs.«01_k».proof.Proof.Formula

@[expose] public section

set_option maxRecDepth 16384

noncomputable section

namespace Cert.Position

open Cert.KernelIdeal Cert.KernelIdeal.Gen Cert.Body Cert.Block Cert.Pairs Cert.Words Cert.LayerNorm Cert.Prepared
open Idealize.ShloMosaic Idealize.ShloMosaic.TcCoe Idealize.SL.Sem

/-- The padded features at position `l` of row `i` are the row's. -/
theorem xcat_at (xr : Fin 128 → S1x50x32.Idx → Ideal .f32) (i : Fin 128) (l : Fin 50) (k : Fin 32) :
    xcat xr (ix2 (pos i l) k) = xr i (ix3 0 l k) := by
  refine (concatenate_pairs (t := S7168x32) 0 (fun i => shapeCast S50x32 (xr i) shapeCasts_S1x50x32_S50x32) k0_pay2 _ rfl rfl _ i (ix2 l k) ?_ ?_).trans ?_
  · intro b hb
    match b with
    | ⟨0, _⟩ => exact absurd rfl hb
    | ⟨1, _⟩ => rfl
  · rfl
  · pointwise []

/-- The padded numbers at position `l` of row `i` are the row's. -/
theorem icat_at (ir : Fin 128 → S1x50.Idx → BitVec 32) (i : Fin 128) (l : Fin 50) :
    icat ir (ix2 0 (pos i l)) = ir i (ix2 0 l) := by
  refine concatenate_pairs (t := S1x7168) 1 ir k0_pay127 _ rfl rfl _ i (ix2 0 l) ?_ ?_
  · intro b hb
    match b with
    | ⟨0, _⟩ => rfl
    | ⟨1, _⟩ => exact absurd rfl hb
  · rfl

/-- The sums the body gathers: inside the betting range the packed rows of the clipped action, street and token. -/
theorem gathered_at (tok act st : IVec S1x7168 32) (p : Vec Ideal S40x256 .f32) (r : Fin 7168) (d : Fin 256) {t a s : BitVec 32}
    (ht : tok (ix2 0 r) = t) (ha : act (ix2 0 r) = a) (hs : st (ix2 0 r) = s) :
    (gathered tok act st p (ix2 r d) : EReal)
      = if bets t = 1#1 then
          p (ix2 ⟨(clipped 1 a).val, by omega⟩ d) + p (ix2 ⟨(clipped 3 s).val + 2, by omega⟩ d)
            + p (ix2 ⟨(clipped 31 (IntOp.subi t 10#32)).val + 6, by omega⟩ d)
        else 0 := by
  pointwise [gathered, Body.named, orNone, betting, clip]
  rw [ht, ha, hs, show IntOp.minsi 1#32 _ = _ from clip_word (h := 1) (by decide) _,
    show IntOp.minsi 3#32 _ = _ from clip_word (h := 3) (by decide) _,
    show IntOp.minsi 31#32 _ = _ from clip_word (h := 31) (by decide) _]
  exact picked _ _ _ _ fun x => p (ix2 x d)

/-- The body's context features at position `r`: the linear layer's output `d` less the one of its second half, over the
    deviation, scaled and shifted, where positive. -/
theorem features_at (x : FVec Ideal S7168x32 .f32) (w : Vec Ideal S32x256 .f32) (b : Vec Ideal S1x256 .f32)
    (g be : Vec Ideal S1x128 .f32) (r : Fin 7168) (d : Fin 128) (X : Fin 32 → EReal) (W : Fin 32 → Fin 128 → EReal)
    (B : Fin 128 → EReal) (hx : ∀ k, x (ix2 r k) = X k) (hw : ∀ k j, w (ix2 k (left j)) = W k j)
    (hm : ∀ k j, w (ix2 k (right j)) = Ideal.div (∑ j, W k j) c128) (hb : ∀ j, b (ix2 0 (left j)) = B j)
    (hn : ∀ j, b (ix2 0 (right j)) = Ideal.div (∑ j, B j) c128) :
    (k0_pay126 x w b g be (ix2 r d) : EReal)
      = max ((lin X W B d - folded X W B) * Ideal.rsqrt (spread X W B (folded X W B)) * g (ix2 0 d) + be (ix2 0 d)) 0 := by
  pointwise [k0_pay126]
  simp only [left, right] at hw hm hb hn
  simp only [hx, hw, hm, hb, hn]
  rfl

/-- The body's result at a position: the gathered left half, and the context features times the gathered right half. -/
theorem rows_at (h : FVec Ideal S7168x128 .f32) (y : FVec Ideal S7168x256 .f32) (r : Fin 7168) (d : Fin 128) :
    (k0_pay132 h y (ix2 r d) : EReal) = y (ix2 r (left d)) + y (ix2 r (right d)) * h (ix2 r d) := by
  pointwise [k0_pay132, left, right]

/-- The packed weights hold the parameters: the linear layer and its means; the tables' rows one below the other, beside
    ones at the action's rows and zeros below them; the scale and the shift. -/
structure Holds (P : Formula.Params) (w : Vec Ideal S32x256 .f32) (b : Vec Ideal S1x256 .f32) (g be : Vec Ideal S1x128 .f32)
    (p : Vec Ideal S40x256 .f32) : Prop where
  w_left : ∀ k j, (w (ix2 k (left j)) : EReal) = P.w k j
  w_right : ∀ k j, (w (ix2 k (right j)) : EReal) = Ideal.div (∑ j, P.w k j) c128
  b_left : ∀ j, (b (ix2 0 (left j)) : EReal) = P.b j
  b_right : ∀ j, (b (ix2 0 (right j)) : EReal) = Ideal.div (∑ j, P.b j) c128
  scale : ∀ j, (g (ix2 0 j) : EReal) = P.scale j
  shift : ∀ j, (be (ix2 0 j) : EReal) = P.shift j
  act : ∀ (a : Fin 2) j, (p (ix2 ⟨a.val, by omega⟩ (left j)) : EReal) = P.act a j
  str : ∀ (s : Fin 4) j, (p (ix2 ⟨s.val + 2, by omega⟩ (left j)) : EReal) = P.str s j
  tok : ∀ (t : Fin 32) j, (p (ix2 ⟨t.val + 6, by omega⟩ (left j)) : EReal) = P.tok t j
  ones : ∀ (k : Fin 40) j, (p (ix2 k (right j)) : EReal) = (if k.val < 2 then 1 else 0 : EReal)

/-- A position computed from weights that hold the parameters has the formula's value. -/
theorem position_at {P : Formula.Params} {w : Vec Ideal S32x256 .f32} {b : Vec Ideal S1x256 .f32} {g be : Vec Ideal S1x128 .f32}
    {p : Vec Ideal S40x256 .f32} (H : Holds P w b g be p) (xs : FVec Ideal S7168x32 .f32) (tok act st : IVec S1x7168 32)
    (r : Fin 7168) (d : Fin 128) {t a s : BitVec 32} {x : Fin 32 → EReal} (hx : ∀ k, xs (ix2 r k) = x k)
    (ht : tok (ix2 0 r) = t) (ha : act (ix2 0 r) = a) (hs : st (ix2 0 r) = s) :
    (k0_pay132 (k0_pay126 xs w b g be) (gathered tok act st p) (ix2 r d) : EReal) = Formula.position P t a s x d := by
  rw [rows_at, gathered_at _ _ _ _ _ _ ht ha hs, gathered_at _ _ _ _ _ _ ht ha hs,
    features_at _ _ _ _ _ r d x P.w P.b hx H.w_left H.w_right H.b_left H.b_right, H.scale, H.shift, H.act, H.str, H.tok, H.ones,
    H.ones, H.ones, norm_eq]
  unfold Formula.position
  by_cases hb : bets t = 1#1
  · rw [if_pos hb, if_pos hb, if_pos hb, if_pos (by exact (clipped 1 _).isLt), if_neg (by dsimp only; omega),
      if_neg (by dsimp only; omega), add_zero, add_zero, one_mul]
  · rw [if_neg hb, if_neg hb, if_neg hb, zero_mul, add_zero]

/-- So has a block, at each position of its rows. -/
theorem block_at {P : Formula.Params} {w : Vec Ideal S32x256 .f32} {b : Vec Ideal S1x256 .f32} {g be : Vec Ideal S1x128 .f32}
    {p : Vec Ideal S40x256 .f32} (H : Holds P w b g be p) (X : S128x50x32.Idx → Ideal .f32) (x0 x1 x2 : S128x50.Idx → BitVec 32)
    (i : Fin 128) (l : Fin 50) (d : Fin 128) :
    (block X x0 x1 x2 w b g be p (ix3 i l d) : EReal)
      = Formula.position P (x0 (ix2 i l)) (x1 (ix2 i l)) (x2 (ix2 i l)) (fun k => X (ix3 i l k)) d :=
  position_at H _ _ _ _ (pos i l) d (fun k => xcat_at (xrow X) i l k) (icat_at (irow x0) i l) (icat_at (irow x1) i l)
    (icat_at (irow x2) i l)

section Arguments
variable (m : (ℓ : Loc nD τ sig) → Buf (Elt Ideal) ℓ) (c : Dev nD)

/-- The parameters as the arguments give them. -/
def params : Formula.Params where
  act i j := Act m c (ix2 i j)
  str i j := Str m c (ix2 i j)
  tok i j := Tok m c (ix2 i j)
  w i j := W m c (ix2 i j)
  b j := B m c (ix1 j)
  scale j := m ((c : Thread nD τ).loc main_arg9) (ix1 j)
  shift j := m ((c : Thread nD τ).loc main_arg10) (ix1 j)

/-- The prepared weights hold them. -/
theorem holds : Holds (params m c) (V m c main_v7) (V m c main_v12) (V m c main_v20) (V m c main_v21) (V m c main_v19) where
  w_left := weights_left m c
  w_right := weights_right m c
  b_left := biases_left m c
  b_right := biases_right m c
  scale := gains_at m c
  shift := shifts_at m c
  act a j := by
    rw [packed_left, dif_pos (by exact a.isLt)]; rfl
  str s j := by
    have hs := s.isLt
    rw [packed_left, dif_neg (by dsimp only; omega), dif_pos (by dsimp only; omega)]
    rfl
  tok t j := by
    have ht := t.isLt
    rw [packed_left, dif_neg (by dsimp only; omega), dif_neg (by dsimp only; omega), dif_pos (by dsimp only; omega)]
    rfl
  ones := packed_right m c

/-- The array after the run at a position is the formula's value there. -/
theorem value (t : Fin grid0.N) (i : Fin 128) (l : Fin 50) (d : Fin 128) :
    ((dats m 0 c).arrAt 8 cfg0.N (ix3 (Arrays.row t i) l d) : EReal)
      = Formula.position (params m c) (m ((c : Thread nD τ).loc main_arg0) (ix2 (Arrays.row t i) l))
        (m ((c : Thread nD τ).loc main_arg1) (ix2 (Arrays.row t i) l)) (m ((c : Thread nD τ).loc main_arg2) (ix2 (Arrays.row t i) l))
        (fun k => m ((c : Thread nD τ).loc main_arg3) (ix3 (Arrays.row t i) l k)) d :=
  (Arrays.final m c t i l d).trans (block_at (holds m c) _ _ _ _ i l d)

end Arguments

end Cert.Position

end
-- ==== Proof.Take.lean ====
/- Rows of a table read by clipped row numbers: what each of the reference's three tables contributes at a position. -/
module

public import proofs.«01_k».proof.Proof.Gen.ReferenceIdeal.Read
public import proofs.«01_k».proof.Proof.Words

@[expose] public section

set_option maxRecDepth 16384

noncomputable section

namespace Cert.Take

open Cert.ReferenceIdeal Cert.ReferenceIdeal.Gen Cert.ReferenceIdeal.Read Cert.Words Idealize.ShloMosaic

/-- The gather that reads, at `(I, l, e)`, entry `e` of the table's row numbered by the index array at `(I, l)`. -/
theorem gather_at {α : Type} {N : Nat} (d : GatherDims ⟨2, ![N, 128]⟩ S4096x50x1 S4096x50x128) (h1 : d.offsetDims = [2])
    (h2 : d.collapsedSliceDims = [0]) (h3 : d.operandBatchingDims = []) (h5 : d.startIndexMap = [0]) (h6 : d.indexVectorDim = 2)
    (h7 : d.sliceSizes = ![1, 128]) (x : (⟨2, ![N, 128]⟩ : Shape).Idx → α) (idx : IVec S4096x50x1 32) (I : Fin 4096) (l : Fin 50)
    (e : Fin 128) (r : Fin N) (hN : N < 2 ^ 31) (hr : idx (ix3 I l 0) = BitVec.ofNat 32 r.val) :
    Host.gather d x idx (ix3 I l e) = x (ix2 r e) := by
  obtain ⟨o, c, ob, sb, sm, iv, sz, wf⟩ := d
  dsimp only at h1 h2 h3 h5 h6 h7
  subst h1 h2 h3 h5 h6 h7
  have hl := r.isLt
  refine congrArg x (funext fun a => Fin.ext ?_)
  match a with
  | ⟨0, _⟩ =>
    have e0 : ∀ j : S4096x50x1.Idx, (j 0).val = I.val → (j 1).val = l.val → j = ix3 I l 0 := by
      intro j h0 h1
      funext b
      apply Fin.ext
      match b with
      | ⟨0, _⟩ => exact h0
      | ⟨1, _⟩ => exact h1
      | ⟨2, _⟩ => exact Nat.lt_one_iff.1 (j 2).isLt
    refine Eq.trans (b := min (idx (ix3 I l 0)).toInt.toNat (N - 1))
      (congrArg (fun j => min (idx j).toInt.toNat (N - 1)) (e0 _ ?_ ?_)) ?_
    · rfl
    · rfl
    · rw [hr, toInt_small (by omega)]
      show min (r.val : Int).toNat (N - 1) = r.val
      omega
  | ⟨1, _⟩ =>
    show 0 + 0 + _ = e.val
    rw [Nat.zero_add]
    rfl

section Table
variable (h : Nat)

/-- The numbers `u` clipped to the rows of a table whose last row is `h`. -/
def clips (u : IVec S4096x50 32) : IVec S4096x50 32 :=
  minsi (broadcastInDim S4096x50 ![] bcast_S_S4096x50 (constantI S_ 32 (BitVec.ofNat 32 h)))
    (maxsi (broadcastInDim S4096x50 ![] bcast_S_S4096x50 (constantI S_ 32 0#32)) u)

/-- The row numbers a table is read at: the clipped numbers, a negative one counted from the table's end. -/
def numbers (u : IVec S4096x50 32) : IVec S4096x50x1 32 :=
  broadcastInDim S4096x50x1 ![0, 1] bcast_S4096x50_S4096x50x1_0_1
    (select (cmpi .slt (clips h u) (broadcastInDim S4096x50 ![] bcast_S_S4096x50 (constantI S_ 32 0#32)))
      (addi (clips h u) (broadcastInDim S4096x50 ![] bcast_S_S4096x50 (constantI S_ 32 (BitVec.ofNat 32 (h + 1))))) (clips h u))

/-- Whether a row number lies in the table. -/
def inside (u : IVec S4096x50 32) : IVec S4096x50x1 1 :=
  andi (cmpi .sge (numbers h u) (broadcastInDim S4096x50x1 ![] bcast_S_S4096x50x1 (constantI S_ 32 0#32)))
    (cmpi .sle (numbers h u) (broadcastInDim S4096x50x1 ![0, 1, 2] bcast_S1x1x1_S4096x50x1_0_1_2
      (broadcastInDim S1x1x1 ![2] bcast_S1_S1x1x1_2 (constantI S1 32 (BitVec.ofNat 32 h)))))

/-- The table's rows of those numbers, not a number where one lies outside the table. -/
def taken (d : GatherDims ⟨2, ![h + 1, 128]⟩ S4096x50x1 S4096x50x128) (u : IVec S4096x50 32)
    (T : (⟨2, ![h + 1, 128]⟩ : Shape).Idx → EReal) : FVec Ideal S4096x50x128 .f32 :=
  select (broadcastInDim S4096x50x128 ![0, 1] bcast_S4096x50_S4096x50x128_0_1
      (Host.reduce IntOp.andi (inside h u) (constantI S_ 1 1#1) reducesTo_S4096x50x1_S4096x50_d2 h_S_))
    (Host.gather d T (numbers h u))
    (broadcastInDim S4096x50x128 ![] bcast_S_S4096x50x128 (constant S_ .f32 0x7FC00000#32))

variable {h} (hh : h + 1 < 2 ^ 31) (u : IVec S4096x50 32) (I : Fin 4096) (l : Fin 50)
include hh

/-- A clipped number is not negative, so it is the row number. -/
theorem number (z : Fin 1) : numbers h u (ix3 I l z) = BitVec.ofNat 32 (clipped h (u (ix2 I l))).val := by
  have hc := (clipped h (u (ix2 I l))).isLt
  pointwise [numbers, clips]
  rw [clip_word (by omega), not_wrapped (by omega)]

/-- It lies in the table. -/
theorem inside_table (i : S4096x50x1.Idx) : inside h u i = 1#1 := by
  idx_vars i
  have hc := (clipped h (u (ix2 i0 i1))).isLt
  pointwise [inside]
  rw [number hh]
  exact in_range (by omega) (by omega)

/-- So the row taken at `(I, l)` is the one of the clipped number there. -/
theorem taken_at (d : GatherDims ⟨2, ![h + 1, 128]⟩ S4096x50x1 S4096x50x128) (h1 : d.offsetDims = [2])
    (h2 : d.collapsedSliceDims = [0]) (h3 : d.operandBatchingDims = []) (h5 : d.startIndexMap = [0]) (h6 : d.indexVectorDim = 2)
    (h7 : d.sliceSizes = ![1, 128]) (T : (⟨2, ![h + 1, 128]⟩ : Shape).Idx → EReal) (e : Fin 128) :
    (taken h d u T (ix3 I l e) : EReal) = T (ix2 (clipped h (u (ix2 I l))) e) := by
  pointwise [taken]
  rw [show (fun x : Fin 1 => inside h u (ix3 I l x)) = fun _ => 1#1 from funext fun x => inside_table hh u _,
    show Finset.fold IntOp.andi 1#1 (fun _ : Fin 1 => 1#1) Finset.univ = 1#1 from rfl]
  exact gather_at d h1 h2 h3 h5 h6 h7 T _ I l e _ hh (number hh u I l 0)

end Table

/-- The action features at a position: the action table's row of the clipped action. -/
theorem actions (x : S4096x50.Idx → BitVec 32) (T : S2x128.Idx → EReal) (I : Fin 4096) (l : Fin 50) (e : Fin 128) :
    (val_main_v34 (F := Ideal) x T (ix3 I l e) : EReal) = T (ix2 (clipped 1 (x (ix2 I l))) e) :=
  taken_at (h := 1) (by decide) x I l gather_S2x128_S4096x50x1_S4096x50x128_2_0_n_n_0_2_1128 rfl rfl rfl rfl rfl rfl T e

/-- The street features: the street table's row of the clipped street. -/
theorem streets (x : S4096x50.Idx → BitVec 32) (T : S4x128.Idx → EReal) (I : Fin 4096) (l : Fin 50) (e : Fin 128) :
    (val_main_v35 (F := Ideal) x T (ix3 I l e) : EReal) = T (ix2 (clipped 3 (x (ix2 I l))) e) :=
  taken_at (h := 3) (by decide) x I l gather_S4x128_S4096x50x1_S4096x50x128_2_0_n_n_0_2_1128 rfl rfl rfl rfl rfl rfl T e

/-- The token features: the token table's row of the token less ten, clipped. -/
theorem tokens (x : S4096x50.Idx → BitVec 32) (T : S32x128.Idx → EReal) (I : Fin 4096) (l : Fin 50) (e : Fin 128) :
    (val_main_v37 (F := Ideal) x T (ix3 I l e) : EReal) = T (ix2 (clipped 31 (IntOp.subi (x (ix2 I l)) 10#32)) e) :=
  taken_at (h := 31) (by decide) (val_main_v8 (F := Ideal) x) I l gather_S32x128_S4096x50x1_S4096x50x128_2_0_n_n_0_2_1128 rfl rfl rfl
    rfl rfl rfl T e

end Cert.Take

end
-- ==== Proof.Ref.lean ====
/- What the reference computes at one position: the sum of three table rows and the normalised context features inside the
   betting range, zero outside. -/
module

public import proofs.«01_k».proof.Proof.Take
public import proofs.«01_k».proof.Proof.Formula
import Mathlib.Tactic.NormNum

@[expose] public section

set_option maxRecDepth 16384

noncomputable section

namespace Cert.Ref

open Cert.ReferenceIdeal Cert.ReferenceIdeal.Gen Cert.ReferenceIdeal.Read Cert.Words Cert.LayerNorm Idealize.ShloMosaic

variable (x0 x1 x2 : S4096x50.Idx → BitVec 32) (x3 : S4096x50x32.Idx → EReal) (x4 : S2x128.Idx → EReal) (x5 : S4x128.Idx → EReal)
  (x6 x7 : S32x128.Idx → EReal) (x8 x9 x10 : S128.Idx → EReal) (I : Fin 4096) (l : Fin 50) (d : Fin 128)

/-- The number of values a variance divides by is 128. -/
theorem count_eq : c128 - FloatOps.sitofp (F := Ideal) .f32 0#32 = c128 := by
  rw [show (FloatOps.sitofp (F := Ideal) .f32 0#32 : EReal) = 0 from by simp [FloatOps.sitofp], sub_zero]

theorem count_pos : 0 < c128 := by
  rw [c128_eq]; exact_mod_cast (by norm_num : (0 : ℝ) < 128)

/-- The context features at a position: the linear layer's output `d`, less the mean, over the deviation, scaled and shifted,
    where positive. -/
theorem context :
    (val_main_v33 (F := Ideal) x3 x7 x8 x9 x10 (ix3 I l d) : EReal)
      = max (Ideal.div (lin (fun k => x3 (ix3 I l k)) (fun k j => x7 (ix2 k j)) (fun j => x8 (ix1 j)) d
            - mean (fun k => x3 (ix3 I l k)) (fun k j => x7 (ix2 k j)) (fun j => x8 (ix1 j)))
          (Ideal.sqrt (spread (fun k => x3 (ix3 I l k)) (fun k j => x7 (ix2 k j)) (fun j => x8 (ix1 j))
            (mean (fun k => x3 (ix3 I l k)) (fun k j => x7 (ix2 k j)) (fun j => x8 (ix1 j)))))
          * x9 (ix1 d) + x10 (ix1 d)) 0 := by
  pointwise [val_main_v10, val_main_v11, val_main_v12, val_main_v13, val_main_cst, val_main_v14, val_main_v15,
    val_main_cst_8, val_main_v16, val_main_v17, val_main_c_9, val_main_call3_cst, val_main_call3_v0, val_main_call3_v1,
    val_main_call3_cst_0, val_main_call3_v2, val_main_call3_v3, val_main_call3_v4, val_main_call3_v5, val_main_call3_v6,
    val_main_call3_v7, val_main_call3_cst_1, val_main_call3_v8, val_main_call3_cst_2, val_main_call3_v9, val_main_call3_v10,
    val_main_call3_v11, val_main_call3_v12, val_main_call3_cst_3, val_main_call3_v13, val_main_call3_cst_4,
    val_main_call3_call0_v0, val_main_call3_call0_v1, val_main_v18, val_main_v19, val_main_v20, val_main_cst_10,
    val_main_v21, val_main_v22, val_main_v23, val_main_v24, val_main_v25, val_main_v26, val_main_v27, val_main_v28,
    val_main_v29, val_main_v30, val_main_v31, val_main_cst_11, val_main_v32, val_main_v33]
  rw [show Ideal.ofBits .f32 1124073472#32 - FloatOps.sitofp (F := Ideal) .f32 0#32 = Ideal.ofBits .f32 1124073472#32 from count_eq,
    if_pos count_pos]
  rfl

/-- The reference's result at a position is the formula's. -/
theorem value :
    (val_main_v42 (F := Ideal) x0 x1 x2 x3 x4 x5 x6 x7 x8 x9 x10 (ix3 I l d) : EReal)
      = Formula.position ⟨fun i j => x4 (ix2 i j), fun i j => x5 (ix2 i j), fun i j => x6 (ix2 i j), fun i j => x7 (ix2 i j),
          fun j => x8 (ix1 j), fun j => x9 (ix1 j), fun j => x10 (ix1 j)⟩
        (x0 (ix2 I l)) (x1 (ix2 I l)) (x2 (ix2 I l)) (fun k => x3 (ix3 I l k)) d := by
  pointwise [val_main_v42, val_main_call7_v0, val_main_v41, val_main_v40, val_main_cst_12, val_main_v39, val_main_v38, val_main_v36,
    val_main_v4, val_main_v3, val_main_v2, val_main_v1, val_main_v0, val_main_c, val_main_c_0]
  rw [Take.actions, Take.streets, Take.tokens, context]
  rfl

end Cert.Ref

end
-- ==== Proof.Equation.lean ====
/- The kernel's array and the reference's result, from the same arguments, are equal. -/
module

public import proofs.«01_k».proof.Proof.Position
public import proofs.«01_k».proof.Proof.Ref

@[expose] public section

set_option maxRecDepth 16384

noncomputable section

namespace Cert.Equation

open Cert.KernelIdeal Cert.KernelIdeal.Gen Idealize.ShloMosaic Idealize.ShloMosaic.TcCoe Idealize.SL.Sem

variable (m : (ℓ : Loc nD τ sig) → Buf (Elt Ideal) ℓ) (c : Dev nD)

/-- Every row of the batch is a row of one of the 32 blocks. -/
theorem row_of (I : Fin 4096) : ∃ (t : Fin grid0.N) (i : Fin 128), Arrays.row t i = I := by
  have hI := I.isLt
  refine ⟨⟨I.val / 128, by rw [N_0]; omega⟩, ⟨I.val % 128, by omega⟩, Fin.ext ?_⟩
  show 128 * (I.val / 128) + I.val % 128 = I.val
  omega

/-- The reference's result of the kernel's arguments is the array the kernel leaves. -/
theorem same :
    Cert.ReferenceIdeal.Read.val_main_v42 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
      = (dats m 0 c).arrAt 8 cfg0.N := by
  funext y
  change S4096x50x128.Idx at y
  idx_vars y
  obtain ⟨t, i, rfl⟩ := row_of y0
  exact (Ref.value _ _ _ _ _ _ _ _ _ _ _ (Arrays.row t i) y1 y2).trans (Position.value m c t i y1 y2).symm

end Cert.Equation

end
-- ==== Proof.lean ====
/- The five claims, assembled: the generated frames of the two kernels, the reference's run, and the equation of the two
   results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem

/-- The reference runs to its end, leaves its arguments as they were and every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the kernel and the reference both run to their ends, with equal results and their arguments kept. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v42_eq, h0, h1, h2, h3, h4, h5, h6, h7, h8, h9, h10]
  exact Cert.Equation.same m c

/-- The certificate's claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, algebraic⟩

end Cert.Proof

end
